-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S1 : Shape := ⟨1, ![1]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) (main_arg2 : FVec F S1 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S1 : Shape := ⟨1, ![1]⟩
abbrev S_ : Shape := ⟨0, ![]⟩
abbrev S1024x100096 : Shape := ⟨2, ![1024, 100096]⟩
abbrev S1024x8x128 : Shape := ⟨3, ![1024, 8, 128]⟩
abbrev S512 : Shape := ⟨1, ![512]⟩
abbrev S1x8x128 : Shape := ⟨3, ![1, 8, 128]⟩
abbrev S8x128 : Shape := ⟨2, ![8, 128]⟩
abbrev S512x8x128 : Shape := ⟨3, ![512, 8, 128]⟩
abbrev S1024x1024 : Shape := ⟨2, ![1024, 1024]⟩
abbrev S1024x1 : Shape := ⟨2, ![1024, 1]⟩
abbrev S1x1 : Shape := ⟨2, ![1, 1]⟩
abbrev S256x4096 : Shape := ⟨2, ![256, 4096]⟩
abbrev S256x1 : Shape := ⟨2, ![256, 1]⟩
abbrev S1x1024x1 : Shape := ⟨3, ![1, 1024, 1]⟩
abbrev S1x1x1 : Shape := ⟨3, ![1, 1, 1]⟩

abbrev nBuf : Table → Nat
  | .hbm => 62
  | .local .tc .vmem => 11
  | .local .tc .smem => 1
  | .local .scScalar .smem => 1
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S1, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S_, .i1⟩
  | .hbm, ⟨19, _⟩ => ⟨S1024, .i1⟩
  | .hbm, ⟨20, _⟩ => ⟨S1024, .i1⟩
  | .hbm, ⟨21, _⟩ => ⟨S1024, .i1⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S_, .f32⟩
  | .hbm, ⟨28, _⟩ => ⟨S1024x100096, .f32⟩
  | .hbm, ⟨29, _⟩ => ⟨S1024x8x128, .f32⟩
  | .hbm, ⟨30, _⟩ => ⟨S1024x1024, .f32⟩
  | .hbm, ⟨31, _⟩ => ⟨S1024, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S_, .i1⟩
  | .hbm, ⟨48, _⟩ => ⟨S1024, .i1⟩
  | .hbm, ⟨49, _⟩ => ⟨S1024, .i1⟩
  | .hbm, ⟨50, _⟩ => ⟨S1024, .i1⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x1, .i32⟩
  | .hbm, ⟨60, _⟩ => ⟨S1x1, .f32⟩
  | .hbm, ⟨61, _⟩ => ⟨S1024x100000, .f32⟩
  | .local .tc .vmem, ⟨0, _⟩ => ⟨S256x4096, .f32⟩
  | .local .tc .vmem, ⟨1, _⟩ => ⟨S256x4096, .f32⟩
  | .local .tc .vmem, ⟨2, _⟩ => ⟨S1024x1024, .f32⟩
  | .local .tc .vmem, ⟨3, _⟩ => ⟨S1024x1, .i32⟩
  | .local .tc .vmem, ⟨4, _⟩ => ⟨S256x1, .i32⟩
  | .local .tc .vmem, ⟨5, _⟩ => ⟨S256x1, .i32⟩
  | .local .tc .vmem, ⟨6, _⟩ => ⟨S1x1, .f32⟩
  | .local .tc .vmem, ⟨7, _⟩ => ⟨S256x4096, .f32⟩
  | .local .tc .vmem, ⟨8, _⟩ => ⟨S256x4096, .f32⟩
  | .local .tc .vmem, ⟨9, _⟩ => ⟨S1024x1, .f32⟩
  | .local .tc .vmem, ⟨10, _⟩ => ⟨S1024x1, .f32⟩
  | .local .tc .smem, ⟨0, _⟩ => ⟨S1x1, .f32⟩
  | .local .scScalar .smem, ⟨0, _⟩ => ⟨S512, .i32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_call2_v0 : Ref sig .tc := ⟨.hbm, 33, rfl⟩
abbrev main_call2_c : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_v5 : Ref sig .tc := ⟨.hbm, 41, rfl⟩
abbrev main_call2_v6 : Ref sig .tc := ⟨.hbm, 42, rfl⟩
abbrev main_call2_c_2 : Ref sig .tc := ⟨.hbm, 43, rfl⟩
abbrev main_call2_v7 : Ref sig .tc := ⟨.hbm, 44, rfl⟩
abbrev main_call2_v8 : Ref sig .tc := ⟨.hbm, 45, rfl⟩
abbrev main_call2_c_3 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_v6 : Ref sig .tc := ⟨.hbm, 53, rfl⟩
abbrev main_c_2 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v2_scs : Ref sig .scScalar := ⟨.hbm, 28, rfl⟩
abbrev main_v1_scs : Ref sig .scScalar := ⟨.hbm, 25, rfl⟩
abbrev main_v3_scs : Ref sig .scScalar := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.smem, 0, rfl⟩
abbrev cc0_scratch0 : Ref sig .scScalar := ⟨.smem, 0, rfl⟩
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem5_0 : DmaSem sig := 9
abbrev cc1_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c512_i32 : BitVec 32 := 512#32
  let v0 : BitVec 32 := Scalar.muli arg0 c512_i32
  ![v0.toNat]
@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_mult1 (i : grid0.Coords) (k0_t1 : Fin k0_t1_loop.trips) : BitVec 32 :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  v9
def k0_off2 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_7 : BitVec 32 := 8#32
  let v11 : BitVec 32 := Scalar.muli v7 c8_i32_7
  let c0_i32_8 : BitVec 32 := 0#32
  let v12 : BitVec 32 := Scalar.addi v11 c0_i32_8
  let v13 : Index := Scalar.indexCast v12
  ![v13.toNat]
def k0_mult2 (v14 : BitVec 32) : BitVec 32 :=
  v14

def k0_off3 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c0_i32_9 : BitVec 32 := 0#32
  let v16 : BitVec 32 := Scalar.addi v10 c0_i32_9
  let c0_i32_10 : BitVec 32 := 0#32
  let c0_i32_11 : BitVec 32 := 0#32
  ![v16.toNat, 0, 0]
def k0_off4 (i : grid0.Coords) (k0_t1 : Fin k0_t1_loop.trips) (v14 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v15 : BitVec 32 := v14
  ![v10.toNat, v15.toNat]

def k0_chk1 (i : grid0.Coords) (k0_t1 : Fin k0_t1_loop.trips) (v14 : BitVec 32) : Prop :=
  (128 ∣ (k0_mult2 v14).toNat) ∧
  (∀ a, (k0_off4 i k0_t1 v14) a + S8x128.size a ≤ S1024x100096.size a)
theorem k0_mult2_dvd : ∀ (i : grid0.Coords) (k0_t1 : Fin k0_t1_loop.trips) (v14 : BitVec 32) (k0_hw1 : k0_chk1 i k0_t1 v14), 128 ∣ (k0_mult2 v14).toNat := fun i k0_t1 v14 k0_hw1 => k0_hw1.1
theorem k0_off4_inb : ∀ (i : grid0.Coords) (k0_t1 : Fin k0_t1_loop.trips) (v14 : BitVec 32) (k0_hw1 : k0_chk1 i k0_t1 v14), ∀ a, (k0_off4 i k0_t1 v14) a + S8x128.size a ≤ S1024x100096.size a := fun i k0_t1 v14 k0_hw1 => k0_hw1.2

def k0_off5 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_12 : BitVec 32 := 8#32
  let v20 : BitVec 32 := Scalar.muli v7 c8_i32_12
  let c1_i32_13 : BitVec 32 := 1#32
  let v21 : BitVec 32 := Scalar.addi v20 c1_i32_13
  let v22 : Index := Scalar.indexCast v21
  ![v22.toNat]
def k0_mult3 (v23 : BitVec 32) : BitVec 32 :=
  v23

def k0_off6 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c1_i32_14 : BitVec 32 := 1#32
  let v25 : BitVec 32 := Scalar.addi v10 c1_i32_14
  let c0_i32_15 : BitVec 32 := 0#32
  let c0_i32_16 : BitVec 32 := 0#32
  ![v25.toNat, 0, 0]
def k0_off7 (i : grid0.Coords) (k0_t1 : Fin k0_t1_loop.trips) (v23 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v24 : BitVec 32 := v23
  ![v10.toNat, v24.toNat]

def k0_chk2 (i : grid0.Coords) (k0_t1 : Fin k0_t1_loop.trips) (v23 : BitVec 32) : Prop :=
  (128 ∣ (k0_mult3 v23).toNat) ∧
  (∀ a, (k0_off7 i k0_t1 v23) a + S8x128.size a ≤ S1024x100096.size a)
theorem k0_mult3_dvd : ∀ (i : grid0.Coords) (k0_t1 : Fin k0_t1_loop.trips) (v23 : BitVec 32) (k0_hw2 : k0_chk2 i k0_t1 v23), 128 ∣ (k0_mult3 v23).toNat := fun i k0_t1 v23 k0_hw2 => k0_hw2.1
theorem k0_off7_inb : ∀ (i : grid0.Coords) (k0_t1 : Fin k0_t1_loop.trips) (v23 : BitVec 32) (k0_hw2 : k0_chk2 i k0_t1 v23), ∀ a, (k0_off7 i k0_t1 v23) a + S8x128.size a ≤ S1024x100096.size a := fun i k0_t1 v23 k0_hw2 => k0_hw2.2

def k0_off8 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_17 : BitVec 32 := 8#32
  let v29 : BitVec 32 := Scalar.muli v7 c8_i32_17
  let c2_i32 : BitVec 32 := 2#32
  let v30 : BitVec 32 := Scalar.addi v29 c2_i32
  let v31 : Index := Scalar.indexCast v30
  ![v31.toNat]
def k0_mult4 (v32 : BitVec 32) : BitVec 32 :=
  v32

def k0_off9 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c2_i32_18 : BitVec 32 := 2#32
  let v34 : BitVec 32 := Scalar.addi v10 c2_i32_18
  let c0_i32_19 : BitVec 32 := 0#32
  let c0_i32_20 : BitVec 32 := 0#32
  ![v34.toNat, 0, 0]
def k0_off10 (i : grid0.Coords) (k0_t1 : Fin k0_t1_loop.trips) (v32 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v33 : BitVec 32 := v32
  ![v10.toNat, v33.toNat]

def k0_chk3 (i : grid0.Coords) (k0_t1 : Fin k0_t1_loop.trips) (v32 : BitVec 32) : Prop :=
  (128 ∣ (k0_mult4 v32).toNat) ∧
  (∀ a, (k0_off10 i k0_t1 v32) a + S8x128.size a ≤ S1024x100096.size a)
theorem k0_mult4_dvd : ∀ (i : grid0.Coords) (k0_t1 : Fin k0_t1_loop.trips) (v32 : BitVec 32) (k0_hw3 : k0_chk3 i k0_t1 v32), 128 ∣ (k0_mult4 v32).toNat := fun i k0_t1 v32 k0_hw3 => k0_hw3.1
theorem k0_off10_inb : ∀ (i : grid0.Coords) (k0_t1 : Fin k0_t1_loop.trips) (v32 : BitVec 32) (k0_hw3 : k0_chk3 i k0_t1 v32), ∀ a, (k0_off10 i k0_t1 v32) a + S8x128.size a ≤ S1024x100096.size a := fun i k0_t1 v32 k0_hw3 => k0_hw3.2

def k0_off11 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_21 : BitVec 32 := 8#32
  let v38 : BitVec 32 := Scalar.muli v7 c8_i32_21
  let c3_i32 : BitVec 32 := 3#32
  let v39 : BitVec 32 := Scalar.addi v38 c3_i32
  let v40 : Index := Scalar.indexCast v39
  ![v40.toNat]
def k0_mult5 (v41 : BitVec 32) : BitVec 32 :=
  v41

def k0_off12 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c3_i32_22 : BitVec 32 := 3#32
  let v43 : BitVec 32 := Scalar.addi v10 c3_i32_22
  let c0_i32_23 : BitVec 32 := 0#32
  let c0_i32_24 : BitVec 32 := 0#32
  ![v43.toNat, 0, 0]
def k0_off13 (i : grid0.Coords) (k0_t1 : Fin k0_t1_loop.trips) (v41 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v42 : BitVec 32 := v41
  ![v10.toNat, v42.toNat]

def k0_chk4 (i : grid0.Coords) (k0_t1 : Fin k0_t1_loop.trips) (v41 : BitVec 32) : Prop :=
  (128 ∣ (k0_mult5 v41).toNat) ∧
  (∀ a, (k0_off13 i k0_t1 v41) a + S8x128.size a ≤ S1024x100096.size a)
theorem k0_mult5_dvd : ∀ (i : grid0.Coords) (k0_t1 : Fin k0_t1_loop.trips) (v41 : BitVec 32) (k0_hw4 : k0_chk4 i k0_t1 v41), 128 ∣ (k0_mult5 v41).toNat := fun i k0_t1 v41 k0_hw4 => k0_hw4.1
theorem k0_off13_inb : ∀ (i : grid0.Coords) (k0_t1 : Fin k0_t1_loop.trips) (v41 : BitVec 32) (k0_hw4 : k0_chk4 i k0_t1 v41), ∀ a, (k0_off13 i k0_t1 v41) a + S8x128.size a ≤ S1024x100096.size a := fun i k0_t1 v41 k0_hw4 => k0_hw4.2

def k0_off14 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_25 : BitVec 32 := 8#32
  let v47 : BitVec 32 := Scalar.muli v7 c8_i32_25
  let c4_i32 : BitVec 32 := 4#32
  let v48 : BitVec 32 := Scalar.addi v47 c4_i32
  let v49 : Index := Scalar.indexCast v48
  ![v49.toNat]
def k0_mult6 (v50 : BitVec 32) : BitVec 32 :=
  v50

def k0_off15 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c4_i32_26 : BitVec 32 := 4#32
  let v52 : BitVec 32 := Scalar.addi v10 c4_i32_26
  let c0_i32_27 : BitVec 32 := 0#32
  let c0_i32_28 : BitVec 32 := 0#32
  ![v52.toNat, 0, 0]
def k0_off16 (i : grid0.Coords) (k0_t1 : Fin k0_t1_loop.trips) (v50 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v51 : BitVec 32 := v50
  ![v10.toNat, v51.toNat]

def k0_chk5 (i : grid0.Coords) (k0_t1 : Fin k0_t1_loop.trips) (v50 : BitVec 32) : Prop :=
  (128 ∣ (k0_mult6 v50).toNat) ∧
  (∀ a, (k0_off16 i k0_t1 v50) a + S8x128.size a ≤ S1024x100096.size a)
theorem k0_mult6_dvd : ∀ (i : grid0.Coords) (k0_t1 : Fin k0_t1_loop.trips) (v50 : BitVec 32) (k0_hw5 : k0_chk5 i k0_t1 v50), 128 ∣ (k0_mult6 v50).toNat := fun i k0_t1 v50 k0_hw5 => k0_hw5.1
theorem k0_off16_inb : ∀ (i : grid0.Coords) (k0_t1 : Fin k0_t1_loop.trips) (v50 : BitVec 32) (k0_hw5 : k0_chk5 i k0_t1 v50), ∀ a, (k0_off16 i k0_t1 v50) a + S8x128.size a ≤ S1024x100096.size a := fun i k0_t1 v50 k0_hw5 => k0_hw5.2

def k0_off17 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_29 : BitVec 32 := 8#32
  let v56 : BitVec 32 := Scalar.muli v7 c8_i32_29
  let c5_i32 : BitVec 32 := 5#32
  let v57 : BitVec 32 := Scalar.addi v56 c5_i32
  let v58 : Index := Scalar.indexCast v57
  ![v58.toNat]
def k0_mult7 (v59 : BitVec 32) : BitVec 32 :=
  v59

def k0_off18 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c5_i32_30 : BitVec 32 := 5#32
  let v61 : BitVec 32 := Scalar.addi v10 c5_i32_30
  let c0_i32_31 : BitVec 32 := 0#32
  let c0_i32_32 : BitVec 32 := 0#32
  ![v61.toNat, 0, 0]
def k0_off19 (i : grid0.Coords) (k0_t1 : Fin k0_t1_loop.trips) (v59 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v60 : BitVec 32 := v59
  ![v10.toNat, v60.toNat]

def k0_chk6 (i : grid0.Coords) (k0_t1 : Fin k0_t1_loop.trips) (v59 : BitVec 32) : Prop :=
  (128 ∣ (k0_mult7 v59).toNat) ∧
  (∀ a, (k0_off19 i k0_t1 v59) a + S8x128.size a ≤ S1024x100096.size a)
theorem k0_mult7_dvd : ∀ (i : grid0.Coords) (k0_t1 : Fin k0_t1_loop.trips) (v59 : BitVec 32) (k0_hw6 : k0_chk6 i k0_t1 v59), 128 ∣ (k0_mult7 v59).toNat := fun i k0_t1 v59 k0_hw6 => k0_hw6.1
theorem k0_off19_inb : ∀ (i : grid0.Coords) (k0_t1 : Fin k0_t1_loop.trips) (v59 : BitVec 32) (k0_hw6 : k0_chk6 i k0_t1 v59), ∀ a, (k0_off19 i k0_t1 v59) a + S8x128.size a ≤ S1024x100096.size a := fun i k0_t1 v59 k0_hw6 => k0_hw6.2

def k0_off20 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_33 : BitVec 32 := 8#32
  let v65 : BitVec 32 := Scalar.muli v7 c8_i32_33
  let c6_i32 : BitVec 32 := 6#32
  let v66 : BitVec 32 := Scalar.addi v65 c6_i32
  let v67 : Index := Scalar.indexCast v66
  ![v67.toNat]
def k0_mult8 (v68 : BitVec 32) : BitVec 32 :=
  v68

def k0_off21 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c6_i32_34 : BitVec 32 := 6#32
  let v70 : BitVec 32 := Scalar.addi v10 c6_i32_34
  let c0_i32_35 : BitVec 32 := 0#32
  let c0_i32_36 : BitVec 32 := 0#32
  ![v70.toNat, 0, 0]
def k0_off22 (i : grid0.Coords) (k0_t1 : Fin k0_t1_loop.trips) (v68 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v69 : BitVec 32 := v68
  ![v10.toNat, v69.toNat]

def k0_chk7 (i : grid0.Coords) (k0_t1 : Fin k0_t1_loop.trips) (v68 : BitVec 32) : Prop :=
  (128 ∣ (k0_mult8 v68).toNat) ∧
  (∀ a, (k0_off22 i k0_t1 v68) a + S8x128.size a ≤ S1024x100096.size a)
theorem k0_mult8_dvd : ∀ (i : grid0.Coords) (k0_t1 : Fin k0_t1_loop.trips) (v68 : BitVec 32) (k0_hw7 : k0_chk7 i k0_t1 v68), 128 ∣ (k0_mult8 v68).toNat := fun i k0_t1 v68 k0_hw7 => k0_hw7.1
theorem k0_off22_inb : ∀ (i : grid0.Coords) (k0_t1 : Fin k0_t1_loop.trips) (v68 : BitVec 32) (k0_hw7 : k0_chk7 i k0_t1 v68), ∀ a, (k0_off22 i k0_t1 v68) a + S8x128.size a ≤ S1024x100096.size a := fun i k0_t1 v68 k0_hw7 => k0_hw7.2

def k0_off23 (k0_t1 : Fin k0_t1_loop.trips) : Fin 1 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32_37 : BitVec 32 := 8#32
  let v74 : BitVec 32 := Scalar.muli v7 c8_i32_37
  let c7_i32 : BitVec 32 := 7#32
  let v75 : BitVec 32 := Scalar.addi v74 c7_i32
  let v76 : Index := Scalar.indexCast v75
  ![v76.toNat]
def k0_mult9 (v77 : BitVec 32) : BitVec 32 :=
  v77

def k0_off24 (i : grid0.Coords) (k0_t1 : Fin k0_t1_loop.trips) : Fin 3 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let c7_i32_38 : BitVec 32 := 7#32
  let v79 : BitVec 32 := Scalar.addi v10 c7_i32_38
  let c0_i32_39 : BitVec 32 := 0#32
  let c0_i32_40 : BitVec 32 := 0#32
  ![v79.toNat, 0, 0]
def k0_off25 (i : grid0.Coords) (k0_t1 : Fin k0_t1_loop.trips) (v77 : BitVec 32) : Fin 2 → Nat :=
  let arg0 : BitVec 32 := BitVec.ofNat 32 (i 0).val
  let c512_i32 : BitVec 32 := 512#32
  let v0 : BitVec 32 := Scalar.muli arg0 c512_i32
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v6 : BitVec 32 := Scalar.muli arg7 c1_i32_5
  let v7 : BitVec 32 := Scalar.addi c0_i32_6 v6
  let c8_i32 : BitVec 32 := 8#32
  let v8 : BitVec 32 := Scalar.muli v7 c8_i32
  let v9 : BitVec 32 := Scalar.addi v0 v8
  let v10 : BitVec 32 := v9
  let v78 : BitVec 32 := v77
  ![v10.toNat, v78.toNat]

def k0_chk8 (i : grid0.Coords) (k0_t1 : Fin k0_t1_loop.trips) (v77 : BitVec 32) : Prop :=
  (128 ∣ (k0_mult9 v77).toNat) ∧
  (∀ a, (k0_off25 i k0_t1 v77) a + S8x128.size a ≤ S1024x100096.size a)
theorem k0_mult9_dvd : ∀ (i : grid0.Coords) (k0_t1 : Fin k0_t1_loop.trips) (v77 : BitVec 32) (k0_hw8 : k0_chk8 i k0_t1 v77), 128 ∣ (k0_mult9 v77).toNat := fun i k0_t1 v77 k0_hw8 => k0_hw8.1
theorem k0_off25_inb : ∀ (i : grid0.Coords) (k0_t1 : Fin k0_t1_loop.trips) (v77 : BitVec 32) (k0_hw8 : k0_chk8 i k0_t1 v77), ∀ a, (k0_off25 i k0_t1 v77) a + S8x128.size a ≤ S1024x100096.size a := fun i k0_t1 v77 k0_hw8 => k0_hw8.2

def k0_off26 (i : grid0.Coords) : Fin 3 → Nat :=
  let arg0 : BitVec 32 := BitVec.ofNat 32 (i 0).val
  let c512_i32 : BitVec 32 := 512#32
  let v0 : BitVec 32 := Scalar.muli arg0 c512_i32
  let c0_i32_1 : BitVec 32 := 0#32
  let c0_i32_2 : BitVec 32 := 0#32
  ![v0.toNat, 0, 0]
abbrev grid1 : Pipeline.Grid := ⟨2, ![4, 25], ![false, false]⟩

def k1_off1 (i : grid1.Coords) : Fin 2 → Nat :=
  let arg0 : BitVec 32 := BitVec.ofNat 32 (i 0).val
  let c256_i32 : BitVec 32 := 256#32
  let v6 : BitVec 32 := Scalar.muli arg0 c256_i32
  let v7 : Index := Scalar.indexCast v6
  let c0_3 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S1 : Shape := ⟨1, ![1]⟩
abbrev S_ : Shape := ⟨0, ![]⟩
abbrev S1024x1 : Shape := ⟨2, ![1024, 1]⟩
abbrev S1024x2 : Shape := ⟨2, ![1024, 2]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x100000, .f32⟩
  | .hbm, ⟨7, _⟩ => ⟨S1024x100000, .f32⟩
  | .hbm, ⟨8, _⟩ => ⟨S_, .f32⟩
  | .hbm, ⟨9, _⟩ => ⟨S1024x100000, .f32⟩
  | .hbm, ⟨10, _⟩ => ⟨S1024x100000, .f32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1, .i32⟩
  | .hbm, ⟨28, _⟩ => ⟨S1024x2, .i32⟩
  | .hbm, ⟨29, _⟩ => ⟨S1024, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x1, .f32⟩
  | .hbm, ⟨36, _⟩ => ⟨S_, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S1024x1, .f32⟩
  | .hbm, ⟨43, _⟩ => ⟨S1024x100000, .f32⟩
  | .hbm, ⟨44, _⟩ => ⟨S1024x100000, .i1⟩
  | .hbm, ⟨45, _⟩ => ⟨S_, .f32⟩
  | .hbm, ⟨46, _⟩ => ⟨S1024x1, .f32⟩
  | .hbm, ⟨47, _⟩ => ⟨S1024x1, .i1⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S1x1, .f32⟩
  | .hbm, ⟨64, _⟩ => ⟨S1024x100000, .f32⟩
  | .hbm, ⟨65, _⟩ => ⟨S1024x100000, .f32⟩
  | .hbm, ⟨66, _⟩ => ⟨S1024x100000, .f32⟩
  | .hbm, ⟨67, _⟩ => ⟨S1024x100000, .f32⟩
  | .hbm, ⟨68, _⟩ => ⟨S1024, .f32⟩
  | .hbm, ⟨69, _⟩ => ⟨S_, .i32⟩
  | .hbm, ⟨70, _⟩ => ⟨S1024, .i32⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S1024, .i32⟩
  | .hbm, ⟨78, _⟩ => ⟨S1024, .i1⟩
  | .hbm, ⟨79, _⟩ => ⟨S_, .i32⟩
  | .hbm, ⟨80, _⟩ => ⟨S1024, .i32⟩
  | .hbm, ⟨81, _⟩ => ⟨S1024, .i32⟩
  | .hbm, ⟨82, _⟩ => ⟨S1024, .i32⟩
  | .hbm, ⟨83, _⟩ => ⟨S1024x1, .i32⟩
  | .hbm, ⟨84, _⟩ => ⟨S1024x1, .i32⟩
  | .hbm, ⟨85, _⟩ => ⟨S1024x2, .i32⟩
  | .hbm, ⟨86, _⟩ => ⟨S1024x100000, .f32⟩
  | .hbm, ⟨87, _⟩ => ⟨S_, .f32⟩
  | .hbm, ⟨88, _⟩ => ⟨S1024x100000, .f32⟩
  | .hbm, ⟨89, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]
-- ==== Proof.ScGeom.lean ====
/- The sliver gather's geometry: the closed forms of the kernel's offsets, the rows of the output a transfer fills, and
   what the sixteen-kilobyte transfers leave in the output. -/
module

public import proofs.«01_k».proof.Proof.Gen.KernelIdeal
public import proofs.«01_k».proof.Proof.Gen.KernelIdeal.Skeleton
public import Idealize.ShloMosaic.Lib.ValueLayout

@[expose] public section

noncomputable section

namespace Cert.Proof.Sc

open Cert.KernelIdeal Cert.KernelIdeal.Gen
open Idealize.ShloMosaic Idealize.ShloMosaic.ValueIdx

variable {F : FTy → Type}

/-! ## Offsets -/

/-- The trip number as the induction variable's word. -/
theorem iv_toNat (k : Fin k0_t1_loop.trips) : (Scf.iv 0#32 1#32 k.val).toNat = k.val := by
  have hk : k.val < 64 := lt_of_lt_of_le k.isLt (by decide)
  unfold Scf.iv
  simp only [BitVec.toNat_add, BitVec.toNat_mul, BitVec.toNat_ofNat]
  omega

theorem trips_lt (k : Fin k0_t1_loop.trips) : k.val < 64 := lt_of_lt_of_le k.isLt (by decide)
theorem core_lt (i : grid0.Coords) : (i 0).val < 2 := (i 0).isLt

theorem off1_eq (i : grid0.Coords) : k0_off1 i = ![512 * (i 0).val] := by
  have hi := core_lt i
  unfold k0_off1
  simp only [Scalar.muli, IntOp.muli, BitVec.toNat_mul, BitVec.toNat_ofNat]
  congr 1; omega

theorem off2_eq (k : Fin k0_t1_loop.trips) : k0_off2 k = ![8 * k.val + 0] := by
  have hk := trips_lt k; have hv := iv_toNat k
  unfold k0_off2
  simp only [Scalar.muli, IntOp.muli, Scalar.addi, IntOp.addi, Scalar.indexCast, BitVec.toNat_mul, BitVec.toNat_add, BitVec.toNat_ofNat, hv]
  congr 1; omega
theorem off3_eq (i : grid0.Coords) (k : Fin k0_t1_loop.trips) : k0_off3 i k = ![512 * (i 0).val + (8 * k.val + 0), 0, 0] := by
  have hi := core_lt i; have hk := trips_lt k; have hv := iv_toNat k
  unfold k0_off3
  simp only [Scalar.muli, IntOp.muli, Scalar.addi, IntOp.addi, BitVec.toNat_mul, BitVec.toNat_add, BitVec.toNat_ofNat, hv]
  congr 1; omega
theorem off4_eq (i : grid0.Coords) (k : Fin k0_t1_loop.trips) (v : BitVec 32) :
    k0_off4 i k v = ![512 * (i 0).val + 8 * k.val, v.toNat] := by
  have hi := core_lt i; have hk := trips_lt k; have hv := iv_toNat k
  unfold k0_off4
  simp only [Scalar.muli, IntOp.muli, Scalar.addi, IntOp.addi, BitVec.toNat_mul, BitVec.toNat_add, BitVec.toNat_ofNat, hv]
  congr 1; omega

theorem off5_eq (k : Fin k0_t1_loop.trips) : k0_off5 k = ![8 * k.val + 1] := by
  have hk := trips_lt k; have hv := iv_toNat k
  unfold k0_off5
  simp only [Scalar.muli, IntOp.muli, Scalar.addi, IntOp.addi, Scalar.indexCast, BitVec.toNat_mul, BitVec.toNat_add, BitVec.toNat_ofNat, hv]
  congr 1; omega
theorem off6_eq (i : grid0.Coords) (k : Fin k0_t1_loop.trips) : k0_off6 i k = ![512 * (i 0).val + (8 * k.val + 1), 0, 0] := by
  have hi := core_lt i; have hk := trips_lt k; have hv := iv_toNat k
  unfold k0_off6
  simp only [Scalar.muli, IntOp.muli, Scalar.addi, IntOp.addi, BitVec.toNat_mul, BitVec.toNat_add, BitVec.toNat_ofNat, hv]
  congr 1; omega
theorem off7_eq (i : grid0.Coords) (k : Fin k0_t1_loop.trips) (v : BitVec 32) :
    k0_off7 i k v = ![512 * (i 0).val + 8 * k.val, v.toNat] := by
  have hi := core_lt i; have hk := trips_lt k; have hv := iv_toNat k
  unfold k0_off7
  simp only [Scalar.muli, IntOp.muli, Scalar.addi, IntOp.addi, BitVec.toNat_mul, BitVec.toNat_add, BitVec.toNat_ofNat, hv]
  congr 1; omega

theorem off8_eq (k : Fin k0_t1_loop.trips) : k0_off8 k = ![8 * k.val + 2] := by
  have hk := trips_lt k; have hv := iv_toNat k
  unfold k0_off8
  simp only [Scalar.muli, IntOp.muli, Scalar.addi, IntOp.addi, Scalar.indexCast, BitVec.toNat_mul, BitVec.toNat_add, BitVec.toNat_ofNat, hv]
  congr 1; omega
theorem off9_eq (i : grid0.Coords) (k : Fin k0_t1_loop.trips) : k0_off9 i k = ![512 * (i 0).val + (8 * k.val + 2), 0, 0] := by
  have hi := core_lt i; have hk := trips_lt k; have hv := iv_toNat k
  unfold k0_off9
  simp only [Scalar.muli, IntOp.muli, Scalar.addi, IntOp.addi, BitVec.toNat_mul, BitVec.toNat_add, BitVec.toNat_ofNat, hv]
  congr 1; omega
theorem off10_eq (i : grid0.Coords) (k : Fin k0_t1_loop.trips) (v : BitVec 32) :
    k0_off10 i k v = ![512 * (i 0).val + 8 * k.val, v.toNat] := by
  have hi := core_lt i; have hk := trips_lt k; have hv := iv_toNat k
  unfold k0_off10
  simp only [Scalar.muli, IntOp.muli, Scalar.addi, IntOp.addi, BitVec.toNat_mul, BitVec.toNat_add, BitVec.toNat_ofNat, hv]
  congr 1; omega

theorem off11_eq (k : Fin k0_t1_loop.trips) : k0_off11 k = ![8 * k.val + 3] := by
  have hk := trips_lt k; have hv := iv_toNat k
  unfold k0_off11
  simp only [Scalar.muli, IntOp.muli, Scalar.addi, IntOp.addi, Scalar.indexCast, BitVec.toNat_mul, BitVec.toNat_add, BitVec.toNat_ofNat, hv]
  congr 1; omega
theorem off12_eq (i : grid0.Coords) (k : Fin k0_t1_loop.trips) : k0_off12 i k = ![512 * (i 0).val + (8 * k.val + 3), 0, 0] := by
  have hi := core_lt i; have hk := trips_lt k; have hv := iv_toNat k
  unfold k0_off12
  simp only [Scalar.muli, IntOp.muli, Scalar.addi, IntOp.addi, BitVec.toNat_mul, BitVec.toNat_add, BitVec.toNat_ofNat, hv]
  congr 1; omega
theorem off13_eq (i : grid0.Coords) (k : Fin k0_t1_loop.trips) (v : BitVec 32) :
    k0_off13 i k v = ![512 * (i 0).val + 8 * k.val, v.toNat] := by
  have hi := core_lt i; have hk := trips_lt k; have hv := iv_toNat k
  unfold k0_off13
  simp only [Scalar.muli, IntOp.muli, Scalar.addi, IntOp.addi, BitVec.toNat_mul, BitVec.toNat_add, BitVec.toNat_ofNat, hv]
  congr 1; omega

theorem off14_eq (k : Fin k0_t1_loop.trips) : k0_off14 k = ![8 * k.val + 4] := by
  have hk := trips_lt k; have hv := iv_toNat k
  unfold k0_off14
  simp only [Scalar.muli, IntOp.muli, Scalar.addi, IntOp.addi, Scalar.indexCast, BitVec.toNat_mul, BitVec.toNat_add, BitVec.toNat_ofNat, hv]
  congr 1; omega
theorem off15_eq (i : grid0.Coords) (k : Fin k0_t1_loop.trips) : k0_off15 i k = ![512 * (i 0).val + (8 * k.val + 4), 0, 0] := by
  have hi := core_lt i; have hk := trips_lt k; have hv := iv_toNat k
  unfold k0_off15
  simp only [Scalar.muli, IntOp.muli, Scalar.addi, IntOp.addi, BitVec.toNat_mul, BitVec.toNat_add, BitVec.toNat_ofNat, hv]
  congr 1; omega
theorem off16_eq (i : grid0.Coords) (k : Fin k0_t1_loop.trips) (v : BitVec 32) :
    k0_off16 i k v = ![512 * (i 0).val + 8 * k.val, v.toNat] := by
  have hi := core_lt i; have hk := trips_lt k; have hv := iv_toNat k
  unfold k0_off16
  simp only [Scalar.muli, IntOp.muli, Scalar.addi, IntOp.addi, BitVec.toNat_mul, BitVec.toNat_add, BitVec.toNat_ofNat, hv]
  congr 1; omega

theorem off17_eq (k : Fin k0_t1_loop.trips) : k0_off17 k = ![8 * k.val + 5] := by
  have hk := trips_lt k; have hv := iv_toNat k
  unfold k0_off17
  simp only [Scalar.muli, IntOp.muli, Scalar.addi, IntOp.addi, Scalar.indexCast, BitVec.toNat_mul, BitVec.toNat_add, BitVec.toNat_ofNat, hv]
  congr 1; omega
theorem off18_eq (i : grid0.Coords) (k : Fin k0_t1_loop.trips) : k0_off18 i k = ![512 * (i 0).val + (8 * k.val + 5), 0, 0] := by
  have hi := core_lt i; have hk := trips_lt k; have hv := iv_toNat k
  unfold k0_off18
  simp only [Scalar.muli, IntOp.muli, Scalar.addi, IntOp.addi, BitVec.toNat_mul, BitVec.toNat_add, BitVec.toNat_ofNat, hv]
  congr 1; omega
theorem off19_eq (i : grid0.Coords) (k : Fin k0_t1_loop.trips) (v : BitVec 32) :
    k0_off19 i k v = ![512 * (i 0).val + 8 * k.val, v.toNat] := by
  have hi := core_lt i; have hk := trips_lt k; have hv := iv_toNat k
  unfold k0_off19
  simp only [Scalar.muli, IntOp.muli, Scalar.addi, IntOp.addi, BitVec.toNat_mul, BitVec.toNat_add, BitVec.toNat_ofNat, hv]
  congr 1; omega

theorem off20_eq (k : Fin k0_t1_loop.trips) : k0_off20 k = ![8 * k.val + 6] := by
  have hk := trips_lt k; have hv := iv_toNat k
  unfold k0_off20
  simp only [Scalar.muli, IntOp.muli, Scalar.addi, IntOp.addi, Scalar.indexCast, BitVec.toNat_mul, BitVec.toNat_add, BitVec.toNat_ofNat, hv]
  congr 1; omega
theorem off21_eq (i : grid0.Coords) (k : Fin k0_t1_loop.trips) : k0_off21 i k = ![512 * (i 0).val + (8 * k.val + 6), 0, 0] := by
  have hi := core_lt i; have hk := trips_lt k; have hv := iv_toNat k
  unfold k0_off21
  simp only [Scalar.muli, IntOp.muli, Scalar.addi, IntOp.addi, BitVec.toNat_mul, BitVec.toNat_add, BitVec.toNat_ofNat, hv]
  congr 1; omega
theorem off22_eq (i : grid0.Coords) (k : Fin k0_t1_loop.trips) (v : BitVec 32) :
    k0_off22 i k v = ![512 * (i 0).val + 8 * k.val, v.toNat] := by
  have hi := core_lt i; have hk := trips_lt k; have hv := iv_toNat k
  unfold k0_off22
  simp only [Scalar.muli, IntOp.muli, Scalar.addi, IntOp.addi, BitVec.toNat_mul, BitVec.toNat_add, BitVec.toNat_ofNat, hv]
  congr 1; omega

theorem off23_eq (k : Fin k0_t1_loop.trips) : k0_off23 k = ![8 * k.val + 7] := by
  have hk := trips_lt k; have hv := iv_toNat k
  unfold k0_off23
  simp only [Scalar.muli, IntOp.muli, Scalar.addi, IntOp.addi, Scalar.indexCast, BitVec.toNat_mul, BitVec.toNat_add, BitVec.toNat_ofNat, hv]
  congr 1; omega
theorem off24_eq (i : grid0.Coords) (k : Fin k0_t1_loop.trips) : k0_off24 i k = ![512 * (i 0).val + (8 * k.val + 7), 0, 0] := by
  have hi := core_lt i; have hk := trips_lt k; have hv := iv_toNat k
  unfold k0_off24
  simp only [Scalar.muli, IntOp.muli, Scalar.addi, IntOp.addi, BitVec.toNat_mul, BitVec.toNat_add, BitVec.toNat_ofNat, hv]
  congr 1; omega
theorem off25_eq (i : grid0.Coords) (k : Fin k0_t1_loop.trips) (v : BitVec 32) :
    k0_off25 i k v = ![512 * (i 0).val + 8 * k.val, v.toNat] := by
  have hi := core_lt i; have hk := trips_lt k; have hv := iv_toNat k
  unfold k0_off25
  simp only [Scalar.muli, IntOp.muli, Scalar.addi, IntOp.addi, BitVec.toNat_mul, BitVec.toNat_add, BitVec.toNat_ofNat, hv]
  congr 1; omega

/-! ## Rows and what a transfer leaves -/

/-- The output's row `r`: its eight by one hundred and twenty-eight elements. -/
def rowSet (r : ℕ) : Finset S1024x8x128.Idx := Finset.univ.filter fun p => (p 0).val = r

theorem mem_rowSet {r : ℕ} {p : S1024x8x128.Idx} : p ∈ rowSet r ↔ (p 0).val = r := by simp [rowSet]

/-- The gathered slivers: row `r` is the table's block of eight rows around row `r`, from column `C r` on. -/
def gathered {α : Type} (T : S1024x100096.Idx → α) (C : S1024.Idx → BitVec 32) : S1024x8x128.Idx → α := fun p =>
  T (ix2 ⟨8 * ((p 0).val / 8) + (p 1).val, by have h0 : (p 0).val < 1024 := (p 0).isLt; have h1 : (p 1).val < 8 := (p 1).isLt; omega⟩
    ⟨((C (ix1 (p 0))).toNat + (p 2).val) % 100096, Nat.mod_lt _ (by decide)⟩)

/-- The destination of the transfer of row `r`. -/
abbrev dstAt (o : Fin 3 → ℕ) (inb : ∀ a, o a + S1x8x128.size a ≤ S1024x8x128.size a) : Memref sig .scScalar .hbm S8x128 .f32 :=
  ((Memref.whole main_v3_scs : Memref sig .scScalar .hbm S1024x8x128 .f32).slice (Rect.unit (s := S1024x8x128) o S1x8x128.size inb) (fun _ => rfl)).squeeze S8x128 squeezes_S1x8x128_S8x128
/-- Its source in the table. -/
abbrev srcAt (o : Fin 2 → ℕ) (inb : ∀ a, o a + S8x128.size a ≤ S1024x100096.size a) : Memref sig .scScalar .hbm S8x128 .f32 :=
  (Memref.whole main_v2_scs : Memref sig .scScalar .hbm S1024x100096 .f32).slice (Rect.unit (s := S1024x100096) o S8x128.size inb) (fun _ => rfl)

theorem dstAt_emb {r : ℕ} (inb) (x : Fin 8) (y : Fin 128) (hr : r < 1024) :
    (dstAt ![r, 0, 0] inb).view.emb (ix2 x y) = (ix3 (⟨r, hr⟩ : Fin 1024) x y : S1024x8x128.Idx) := by
  show (Rect.unit (s := S1024x8x128) ![r, 0, 0] S1x8x128.size inb).emb (Shape.reshapeEquiv _ (ix2 x y)) = _
  rw [reshapeEquiv_ix2_1ab]
  funext a
  apply Fin.ext
  match a with
  | ⟨0, _⟩ => show r + 1 * 0 = r; omega
  | ⟨1, _⟩ => show 0 + 1 * x.val = x.val; omega
  | ⟨2, _⟩ => show 0 + 1 * y.val = y.val; omega

theorem ix3_eta (p : S1024x8x128.Idx) : p = ix3 (p 0) (p 1) (p 2) := by
  funext a
  match a with
  | ⟨0, _⟩ => rfl
  | ⟨1, _⟩ => rfl
  | ⟨2, _⟩ => rfl

theorem dstAt_set {r : ℕ} (inb : ∀ a, (![r, 0, 0] : Fin 3 → ℕ) a + S1x8x128.size a ≤ S1024x8x128.size a) (hr : r < 1024) :
    ((dstAt ![r, 0, 0] inb).view.set : Finset S1024x8x128.Idx) = rowSet r := by
  ext p
  refine Iff.trans ?_ mem_rowSet.symm
  constructor
  · intro h
    obtain ⟨x, -, hx⟩ := Finset.mem_map.mp h
    have hx' : x = ix2 (n0 := 8) (n1 := 128) (x 0) (x 1) := by funext a; match a with | ⟨0, _⟩ => rfl | ⟨1, _⟩ => rfl
    have he := (dstAt_emb inb (x 0) (x 1) hr).symm.trans ((congrArg _ hx'.symm).trans hx)
    exact (congrArg (fun q : S1024x8x128.Idx => (q 0).val) he).symm
  · intro h
    have h0 : (p 0) = (⟨r, hr⟩ : Fin 1024) := Fin.ext h
    have he : p = (dstAt ![r, 0, 0] inb).view.emb (ix2 (p 1) (p 2)) :=
      (ix3_eta p).trans ((congrArg (fun z : Fin 1024 => (ix3 z (p 1) (p 2) : S1024x8x128.Idx)) h0).trans (dstAt_emb inb (p 1) (p 2) hr).symm)
    exact (congrArg (fun q => q ∈ (dstAt ![r, 0, 0] inb).view.set) he).mpr (View.emb_mem_set _ _)

/-- What the transfer of row `r` leaves on that row. -/
theorem write_row {Val : EltTy → Type} {r c : ℕ} (inb : ∀ a, (![r, 0, 0] : Fin 3 → ℕ) a + S1x8x128.size a ≤ S1024x8x128.size a)
    (inb' : ∀ a, (![8 * (r / 8), c] : Fin 2 → ℕ) a + S8x128.size a ≤ S1024x100096.size a) (hr : r < 1024)
    (T : S1024x100096.Idx → Val .f32) (C : S1024.Idx → BitVec 32)
    (hc : (C (ix1 (⟨r, hr⟩ : Fin 1024))).toNat = c) (fd : S1024x8x128.Idx → Val .f32) :
    ∀ p ∈ rowSet r, (View.write Val (dstAt ![r, 0, 0] inb).view fd (View.read Val (srcAt ![8 * (r / 8), c] inb').view T) Finset.univ : S1024x8x128.Idx → Val .f32) p
      = gathered T C p := by
  intro p hp
  have h0 : (p 0) = (⟨r, hr⟩ : Fin 1024) := Fin.ext (mem_rowSet.mp hp)
  have hpe : p = (dstAt ![r, 0, 0] inb).view.emb (ix2 (p 1) (p 2)) :=
      (ix3_eta p).trans ((congrArg (fun z : Fin 1024 => (ix3 z (p 1) (p 2) : S1024x8x128.Idx)) h0).trans (dstAt_emb inb (p 1) (p 2) hr).symm)
  have h2 : (p 2).val < 128 := (p 2).isLt
  have hcb : c + 128 ≤ 100096 := inb' 1
  refine (congrArg (View.write Val (dstAt ![r, 0, 0] inb).view fd (View.read Val (srcAt ![8 * (r / 8), c] inb').view T) Finset.univ) hpe).trans ?_
  refine (View.write_emb_of_mem _ _ (Finset.mem_univ _)).trans ?_
  show T ((Rect.unit (s := S1024x100096) ![8 * (r / 8), c] S8x128.size inb').emb (ix2 (p 1) (p 2))) = gathered T C p
  unfold gathered
  congr 1
  funext a
  apply Fin.ext
  match a with
  | ⟨0, _⟩ => show 8 * (r / 8) + 1 * (p 1).val = 8 * ((p 0).val / 8) + (p 1).val; rw [h0]; show _ = 8 * (r / 8) + _; omega
  | ⟨1, _⟩ => show c + 1 * (p 2).val = ((C (ix1 (p 0))).toNat + (p 2).val) % 100096; rw [h0, hc, Nat.mod_eq_of_lt (by omega)]; omega

end Cert.Proof.Sc

end
-- ==== Proof.Setup.lean ====
/- The program as the launch theorem sees it, the resource algebra of its proof, and the arrays the SparseCore call moves. -/
module

public import proofs.«01_k».proof.Proof.ScGeom
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds; beside them the TensorCore pipeline's rounds and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := Emb.inl.trans embR
abbrev EC : UEmb Counters (MT nD τ sig (HIx 1) (Elt F) ℕ UU ℕ) := countersEmb (U := UU)

instance : (EC (F := F)).LandsIn (upEmb : UEmb _ (MT nD τ sig (HIx 1) (Elt F) ℕ UU ℕ)) := by infer_instance
instance : (EP (F := F)).LandsIn (upEmb : UEmb _ (MT nD τ sig (HIx 1) (Elt F) ℕ UU ℕ)) := by
  unfold EP; infer_instance

/-- The gathered table, the first columns of the rows' slivers, the slivers. -/
abbrev tLoc (d : Dev nD) : Loc nD τ sig := (SparseCore.T d).loc main_v2
abbrev cLoc (d : Dev nD) : Loc nD τ sig := (SparseCore.T d).loc main_v1
abbrev oLoc (d : Dev nD) : Loc nD τ sig := (SparseCore.T d).loc main_v3

end Cert.Proof.Sc

end
-- ==== Proof.ScSteps.lean ====
/- One row of the SparseCore kernel's loop: reading the row's first column, the check on it, and the transfer it issues,
   each as one rule over the loop's invariant. -/
module

public import proofs.«01_k».proof.Proof.Setup

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (i : grid0.Coords) (q : PosShare TreeShare)
variable (Tb : S1024x100096.Idx → Elt F .f32) (C : S1024.Idx → BitVec 32) (f0 : S1024x8x128.Idx → Elt F .f32) (fS : S512.Idx → BitVec 32)

/-- The sequencer of the core at `i`. -/
abbrev thrS : Thread nD τ := SparseCore.S d ((i 0).castLE hcore0)

/-- The kernel's own column buffer. -/
abbrev sM : Memref sig .scScalar .smem S512 .i32 := Memref.whole cc0_scratch0

/-- The row the core's `t`-th transfer fills. -/
def rowOf (t : ℕ) (ht : t < 512) : Fin 1024 := ⟨512 * (i 0).val + t, by have := core_lt i; omega⟩

/-- The first columns are multiples of 128 inside the table. -/
def ColsOk : Prop := ∀ r : Fin 1024, 128 ∣ (C (ix1 r)).toNat ∧ (C (ix1 r)).toNat + 128 ≤ 100096

/-- What the core's column buffer holds: its 512 rows' first columns. -/
def BufOk : Prop := ∀ (t : ℕ) (ht : t < 512), fS (ix1 (⟨t, ht⟩ : Fin 512)) = C (ix1 (rowOf i t ht))

/-- What transfer `u` delivers: its row of the output, gathered. -/
def delivery (u : Fin 512) : sProp 𝕄 := oLoc d ↦[rowSet (512 * (i 0).val + u.val)]{fullShare} (gathered Tb C : Buf (Elt F) (oLoc d))

instance delivery_storable (u : Fin 512) : BI.Storable (upEmb : UEmb _ 𝕄) (delivery d i Tb C u) := by
  unfold delivery; infer_instance

/-- Between transfers `t` and `t + 1`: the column buffer, what is left of the table's share, the output rows still to fill,
    and the batch of transfers issued. -/
def Inv (t : ℕ) : sProp 𝕄 :=
  iprop((sM.view.loc (thrS d i) ↦{fullShare} fS)
    ∗ (tLoc d ↦{shareDrop q t} (Tb : Buf (Elt F) (tLoc d)))
    ∗ (bigSep (pending t) fun u : Fin 512 => oLoc d ↦[rowSet (512 * (i 0).val + u.val)]{fullShare} (f0 : Buf (Elt F) (oLoc d)))
    ∗ Batch (EC (F := F)) (thrS d i) (.dma cc0_scratch2.sem) (none : HIx 1) 32768 (delivery d i Tb C) t 0)

/-- Reading row `t`'s first column and checking it. -/
theorem read_spec {t : ℕ} (ht : t < 512) (hC : ColsOk C) (hS : BufOk i C fS)
    {o : Fin 1 → ℕ} (ho : o = ![t]) {inb : ∀ a, o a + S1.size a ≤ S512.size a} {h1 hp}
    {P : BitVec 32 → Prop} {dec : ∀ v, Decidable (P v)} (hP : ∀ v : BitVec 32, 128 ∣ v.toNat → v.toNat + 128 ≤ 100096 → P v)
    {Φ : (v : BitVec 32) → PLift (P v) → sProp 𝕄} :
    Inv d i q Tb C f0 fS t
      ⊢ iprop((Inv d i q Tb C f0 fS t -∗ Φ (C (ix1 (rowOf i t ht))) ⟨hP _ (hC _).1 (hC _).2⟩)
          -∗ wp frame (wpE (defs₀ (F := F)) 𝒱₀ (thrS d i) none) Set.univ
              (smemLoad sM (Rect.unit (s := S512) o S1.size inb) h1 hp)
              fun v => wp frame (wpE (defs₀ (F := F)) 𝒱₀ (thrS d i) none) Set.univ
                (Prog.lift (TpuEff.assume (P v) (dec v))) fun w => Φ v w) := by
  subst ho
  have hr : (sM.access (Rect.unit (s := S512) ![t] S1.size inb)).read (Elt F) fS (Shape.Idx.first (h1.symm ▸ Nat.one_pos)) = C (ix1 (rowOf i t ht)) := by
    refine Eq.trans ?_ (hS t ht)
    show fS ((Rect.unit (s := S512) ![t] S1.size inb).emb (Shape.Idx.first (s := S1) (by decide))) = _
    congr 1
    funext a
    match a with
    | ⟨0, _⟩ => exact Fin.ext (show t + 1 * 0 = t by omega)
  unfold Inv
  iintro ⟨Hs, Ht, Hr, HB⟩ Hk
  unfold smemLoad
  iapply (wp_smemLoadElt_named 𝒱₀ (thrS d i) none Set.univ (m := sM) (r := Rect.unit (s := S512) ![t] S1.size inb) (S := Finset.univ) (f := fS) (Finset.subset_univ _)) $$ Hs
  iintro Hs %w %hw
  obtain rfl : w = C (ix1 (rowOf i t ht)) := hw.trans hr
  simp only [wp_ret]
  imodintro
  iapply (wp_assume 𝒱₀ (thrS d i) none Set.univ (hP _ (hC _).1 (hC _).2))
  simp only [wp_ret]
  imodintro
  iapply Hk
  isplitl [Hs]; · iexact Hs
  isplitl [Ht]; · iexact Ht
  isplitl [Hr]; · iexact Hr
  iexact HB

/-- Issuing row `t`'s transfer. -/
theorem issue_spec {t : ℕ} (ht : t < 512)
    {o3 : Fin 3 → ℕ} (ho3 : o3 = ![512 * (i 0).val + t, 0, 0]) {inb3 : ∀ a, o3 a + S1x8x128.size a ≤ S1024x8x128.size a}
    {o4 : Fin 2 → ℕ} (ho4 : o4 = ![512 * (i 0).val + 8 * (t / 8), (C (ix1 (rowOf i t ht))).toNat])
    {inb4 : ∀ a, o4 a + S8x128.size a ≤ S1024x100096.size a} {h1 h2 h3} {Φ : PUnit → sProp 𝕄} :
    Inv d i q Tb C f0 fS t
      ⊢ iprop((Inv d i q Tb C f0 fS (t + 1) -∗ Φ ⟨⟩)
          -∗ wp frame (wpE (defs₀ (F := F)) 𝒱₀ (thrS d i) none) Set.univ
              (Prog.lift (.enqueueDma (srcAt o4 inb4) (.here (dstAt o3 inb3)) (.dma cc0_scratch2.sem) h1 h2 h3)) Φ) := by
  have hi := core_lt i
  subst ho3
  have ho4' : o4 = ![8 * ((512 * (i 0).val + t) / 8), (C (ix1 (rowOf i t ht))).toNat] := by
    rw [ho4, show 512 * (i 0).val + 8 * (t / 8) = 8 * ((512 * (i 0).val + t) / 8) by omega]
  clear ho4
  subst ho4'
  have hset : ((dstAt ![512 * (i 0).val + t, 0, 0] inb3).view.set : Finset S1024x8x128.Idx) = rowSet (512 * (i 0).val + t) :=
    dstAt_set inb3 (by omega)
  have hD : iprop((oLoc d ↦[rowSet (512 * (i 0).val + t)]{fullShare} ((dstAt ![512 * (i 0).val + t, 0, 0] inb3).view.write (Elt F) f0
          ((srcAt ![8 * ((512 * (i 0).val + t) / 8), (C (ix1 (rowOf i t ht))).toNat] inb4).view.read (Elt F) Tb) Finset.univ : Buf (Elt F) (oLoc d)))
        ∗ ((srcAt ![8 * ((512 * (i 0).val + t) / 8), (C (ix1 (rowOf i t ht))).toNat] inb4).view.loc (thrS d i)
            ↦[(srcAt ![8 * ((512 * (i 0).val + t) / 8), (C (ix1 (rowOf i t ht))).toNat] inb4).view.set]{shareTokN q t} Tb))
      ⊢ (delivery d i Tb C ⟨t, ht⟩ : sProp 𝕄) := by
    refine sep_elim_left.trans (Entails.of_eq ?_)
    unfold delivery
    exact pointsTo_congr fun p hp => write_row (Val := Elt F) inb3 inb4 (by omega) Tb C rfl f0 p hp
  have hN : (dstAt ![512 * (i 0).val + t, 0, 0] inb3).view.amount (.dma cc0_scratch2.sem) = 32768 := by
    show RefSig.bitCredit S8x128 .f32 = 32768
    decide
  unfold Inv
  iintro ⟨Hs, Ht, Hr, HB⟩ Hk
  ihave Ht' := (pointsTo_share (PosShare.mem_left_op_right (shareDrop q t))).1 $$ Ht
  icases Ht' with ⟨Ht, Htk⟩
  ihave Htk' := (pointsTo_split_subset (I := (srcAt ![8 * ((512 * (i 0).val + t) / 8), (C (ix1 (rowOf i t ht))).toNat] inb4).view.set) (Finset.subset_univ _)).1 $$ Htk
  icases Htk' with ⟨Htk, -⟩
  ihave Hr' := (Entails.of_eq (bigSep_pending_step _ t ht)) $$ Hr
  icases Hr' with ⟨Hd, Hr⟩
  have hw := wp_dmaBatch (EC (F := F)) (defs := defs₀ (F := F)) 𝒱₀ (thrS d i) none (Q := Φ) (k := .ret) (src := srcAt ![8 * ((512 * (i 0).val + t) / 8), (C (ix1 (rowOf i t ht))).toNat] inb4)
    (dst := dstAt ![512 * (i 0).val + t, 0, 0] inb3) (via := ReadAs.same) (hsrc := h1) (hdst := h2) (hsem := h3) (q := shareTokN q t) (fs := Tb) (fd := f0) (Sd := rowSet (512 * (i 0).val + t))
    (D := delivery d i Tb C) (j := t) (u := 0) (none : HIx 1) 32768 hN hset.le ht (Nat.zero_le _) hD
  iapply hw $$ [Htk Hd HB]
  · isplitl [Htk]; · iexact Htk
    isplitl [Hd]; · iexact Hd
    iexact HB
  iintro HB
  simp only [wp_ret]
  imodintro
  iapply Hk
  isplitl [Hs]; · iexact Hs
  isplitl [Ht]; · iexact Ht
  isplitl [Hr]; · iexact Hr
  iexact HB

end Cert.Proof.Sc

end
-- ==== Proof.ScBody.lean ====
/- The SparseCore kernel's loop: one trip's eight transfers. -/
module

public import proofs.«01_k».proof.Proof.ScSteps

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (i : grid0.Coords) (q : PosShare TreeShare)
variable (Tb : S1024x100096.Idx → Elt F .f32) (C : S1024.Idx → BitVec 32) (f0 : S1024x8x128.Idx → Elt F .f32) (fS : S512.Idx → BitVec 32)

/-- The call's arguments as the kernel takes them. -/
abbrev tW : Memref sig .scScalar .hbm S1024x100096 .f32 := Memref.whole main_v2_scs
abbrev cW : Memref sig .scScalar .hbm S1024 .i32 := Memref.whole main_v1_scs
abbrev oW : Memref sig .scScalar .hbm S1024x8x128 .f32 := Memref.whole main_v3_scs

/-- An in-range column passes a trip's check. -/
theorem chk_ok {k : Fin k0_t1_loop.trips} {o : Fin 2 → ℕ} {v : BitVec 32} (ho : o = ![512 * (i 0).val + 8 * k.val, v.toNat])
    (h1 : 128 ∣ v.toNat) (h2 : v.toNat + 128 ≤ 100096) :
    (128 ∣ v.toNat) ∧ ∀ a : Fin 2, o a + S8x128.size a ≤ S1024x100096.size a := by
  have hi := core_lt i; have hk := trips_lt k
  subst ho
  refine ⟨h1, fun a => ?_⟩
  match a with
  | ⟨0, _⟩ => show 512 * (i 0).val + 8 * k.val + 8 ≤ 1024; omega
  | ⟨1, _⟩ => exact h2

theorem row_lt (k : Fin k0_t1_loop.trips) (r : ℕ) (hr : r < 8) : 8 * k.val + r < 512 := by
  have := trips_lt k; omega

/-- A trip's source rows, from the transfer's number. -/
theorem src_off {k : Fin k0_t1_loop.trips} {o : Fin 2 → ℕ} {c : ℕ} (r : ℕ) (hr : r < 8) (ho : o = ![512 * (i 0).val + 8 * k.val, c]) :
    o = ![512 * (i 0).val + 8 * ((8 * k.val + r) / 8), c] := by
  rw [ho, show 8 * ((8 * k.val + r) / 8) = 8 * k.val by omega]

/-- A trip's first three transfers. -/
theorem part1_spec (k : Fin k0_t1_loop.trips) (hC : ColsOk C) (hS : BufOk i C fS) (v0 : BitVec 32)
    {Φ : (Σ' (v7 : BitVec 32) (v10 : BitVec 32) (v38 : BitVec 32), BitVec 32) → sProp 𝕄} :
    Inv d i q Tb C f0 fS (8 * k.val + 0)
      ⊢ iprop((∀ r, Inv d i q Tb C f0 fS (8 * k.val + 3) -∗ Φ r)
          -∗ wp frame (wpE (defs₀ (F := F)) 𝒱₀ (thrS d i) none) Set.univ
              (k0_part1 i tW (Memref.isWhole_whole _) cW (Memref.isWhole_whole _) oW (Memref.isWhole_whole _) sM (Memref.isWhole_whole _)
                cc0_scratch1 cc0_scratch2 v0 0#32 1#32 k) Φ) := by
  have hk := trips_lt k
  rw [k0_part1_eq_skeleton]; unfold k0_part1_skel
  simp only [wp_bind]
  iintro HI Hk
  iapply (read_spec d i q Tb C f0 fS (t := 8 * k.val + 0) (by omega) hC hS (off2_eq k) (fun v h1 h2 => chk_ok i (k := k) (off4_eq i k v) h1 h2)) $$ HI
  iintro HI
  iapply (issue_spec d i q Tb C f0 fS (t := 8 * k.val + 0) (row_lt k 0 (by decide)) (off3_eq i k) (src_off i 0 (by decide) (off4_eq i k _))) $$ HI
  iintro HI
  iapply (read_spec d i q Tb C f0 fS (t := 8 * k.val + 1) (by omega) hC hS (off5_eq k) (fun v h1 h2 => chk_ok i (k := k) (off7_eq i k v) h1 h2)) $$ HI
  iintro HI
  iapply (issue_spec d i q Tb C f0 fS (t := 8 * k.val + 1) (row_lt k 1 (by decide)) (off6_eq i k) (src_off i 1 (by decide) (off7_eq i k _))) $$ HI
  iintro HI
  iapply (read_spec d i q Tb C f0 fS (t := 8 * k.val + 2) (by omega) hC hS (off8_eq k) (fun v h1 h2 => chk_ok i (k := k) (off10_eq i k v) h1 h2)) $$ HI
  iintro HI
  iapply (issue_spec d i q Tb C f0 fS (t := 8 * k.val + 2) (row_lt k 2 (by decide)) (off9_eq i k) (src_off i 2 (by decide) (off10_eq i k _))) $$ HI
  iintro HI
  simp only [wp_pure]
  imodintro
  iapply Hk
  iexact HI

/-- A trip's next three transfers, and the seventh's first column. -/
theorem part2_spec (k : Fin k0_t1_loop.trips) (hC : ColsOk C) (hS : BufOk i C fS) (v7 v10 v38 c3 : BitVec 32)
    (ht : 8 * k.val + 6 < 512) {Φ : (Σ' (v68 : Elt F .i32), k0_chk7 i k v68) → sProp 𝕄} :
    Inv d i q Tb C f0 fS (8 * k.val + 3)
      ⊢ iprop((Inv d i q Tb C f0 fS (8 * k.val + 6) -∗ Φ ⟨C (ix1 (rowOf i (8 * k.val + 6) ht)), chk_ok i (off22_eq i k _) (hC _).1 (hC _).2⟩)
          -∗ wp frame (wpE (defs₀ (F := F)) 𝒱₀ (thrS d i) none) Set.univ
              (k0_part2 i tW (Memref.isWhole_whole _) cW (Memref.isWhole_whole _) oW (Memref.isWhole_whole _) sM (Memref.isWhole_whole _)
                cc0_scratch1 cc0_scratch2 k v7 v10 v38 c3) Φ) := by
  have hk := trips_lt k
  rw [k0_part2_eq_skeleton]; unfold k0_part2_skel
  simp only [wp_bind]
  iintro HI Hk
  iapply (read_spec d i q Tb C f0 fS (t := 8 * k.val + 3) (by omega) hC hS (off11_eq k) (fun v h1 h2 => chk_ok i (k := k) (off13_eq i k v) h1 h2)) $$ HI
  iintro HI
  iapply (issue_spec d i q Tb C f0 fS (t := 8 * k.val + 3) (row_lt k 3 (by decide)) (off12_eq i k) (src_off i 3 (by decide) (off13_eq i k _))) $$ HI
  iintro HI
  iapply (read_spec d i q Tb C f0 fS (t := 8 * k.val + 4) (by omega) hC hS (off14_eq k) (fun v h1 h2 => chk_ok i (k := k) (off16_eq i k v) h1 h2)) $$ HI
  iintro HI
  iapply (issue_spec d i q Tb C f0 fS (t := 8 * k.val + 4) (row_lt k 4 (by decide)) (off15_eq i k) (src_off i 4 (by decide) (off16_eq i k _))) $$ HI
  iintro HI
  iapply (read_spec d i q Tb C f0 fS (t := 8 * k.val + 5) (by omega) hC hS (off17_eq k) (fun v h1 h2 => chk_ok i (k := k) (off19_eq i k v) h1 h2)) $$ HI
  iintro HI
  iapply (issue_spec d i q Tb C f0 fS (t := 8 * k.val + 5) (row_lt k 5 (by decide)) (off18_eq i k) (src_off i 5 (by decide) (off19_eq i k _))) $$ HI
  iintro HI
  iapply (read_spec d i q Tb C f0 fS (t := 8 * k.val + 6) (by omega) hC hS (off20_eq k) (fun v h1 h2 => chk_ok i (k := k) (off22_eq i k v) h1 h2)) $$ HI
  iintro HI
  simp only [wp_pure]
  imodintro
  iapply Hk
  iexact HI

/-- A trip: eight transfers. -/
theorem trip_spec (k : Fin k0_t1_loop.trips) (hC : ColsOk C) (hS : BufOk i C fS) (v0 : BitVec 32) (u : Unit)
    {Φ : Unit → sProp 𝕄} :
    Inv d i q Tb C f0 fS (8 * k.val + 0)
      ⊢ iprop((Inv d i q Tb C f0 fS (8 * k.val + 8) -∗ Φ ⟨⟩)
          -∗ wp frame (wpE (defs₀ (F := F)) 𝒱₀ (thrS d i) none) Set.univ
              (k0_t1_body i tW (Memref.isWhole_whole _) cW (Memref.isWhole_whole _) oW (Memref.isWhole_whole _) sM (Memref.isWhole_whole _)
                cc0_scratch1 cc0_scratch2 v0 k u) Φ) := by
  have hk := trips_lt k
  unfold k0_t1_body
  simp only [wp_bind]
  iintro HI Hk
  iapply (part1_spec d i q Tb C f0 fS k hC hS v0) $$ HI
  iintro %r HI
  iapply (part2_spec d i q Tb C f0 fS k hC hS _ _ _ _ (by omega)) $$ HI
  iintro HI
  iapply (issue_spec d i q Tb C f0 fS (t := 8 * k.val + 6) (row_lt k 6 (by decide)) (off21_eq i k) (src_off i 6 (by decide) (off22_eq i k _))) $$ HI
  iintro HI
  iapply (read_spec d i q Tb C f0 fS (t := 8 * k.val + 7) (by omega) hC hS (off23_eq k) (fun v h1 h2 => chk_ok i (k := k) (off25_eq i k v) h1 h2)) $$ HI
  iintro HI
  iapply (issue_spec d i q Tb C f0 fS (t := 8 * k.val + 7) (row_lt k 7 (by decide)) (off24_eq i k) (src_off i 7 (by decide) (off25_eq i k _))) $$ HI
  iintro HI
  simp only [wp_pure]
  imodintro
  iapply Hk
  iexact HI

end Cert.Proof.Sc

end
-- ==== Proof.ScRun.lean ====
/- The SparseCore kernel on one core's sequencer: the first columns fetched, the 512 transfers issued, all waited for at
   once. -/
module

public import proofs.«01_k».proof.Proof.ScBody

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (i : grid0.Coords) (q : PosShare TreeShare)
variable (Tb : S1024x100096.Idx → Elt F .f32) (C : S1024.Idx → BitVec 32) (f0 : S1024x8x128.Idx → Elt F .f32) (fS : S512.Idx → BitVec 32)

abbrev cAcell (c : Fin τ.nSC) : GSem nD τ sig := (S d c, .dma cc0_scratch1.sem)
abbrev cBcell (c : Fin τ.nSC) : GSem nD τ sig := (S d c, .dma cc0_scratch2.sem)

omit [FloatOps F] in
/-- The kernel's two counters among the sequencer's own. -/
theorem ownSems0_S (c : Fin τ.nSC) :
    (ownSems0 (S d c) : sProp 𝕄)
      = iprop(semVal (cAcell d c) 0 ∗ semVal (cBcell d c) 0
          ∗ bigSep (((ownCells (S d c)).erase (cAcell d c)).erase (cBcell d c)) fun g => semVal g 0) := by
  unfold SparseCore.Cfg.ownSems0
  rw [SparseCore.bigSep_erase' ((mem_ownCells (g := cAcell d c)).mpr ⟨rfl, by
      show (SemLoc.dma cc0_scratch1.sem : SemLoc sig).isScoped .scScalar = true; decide⟩),
    SparseCore.bigSep_erase' (Finset.mem_erase.mpr ⟨by simp [cAcell, cBcell]; decide, (mem_ownCells (g := cBcell d c)).mpr ⟨rfl, by
      show (SemLoc.dma cc0_scratch2.sem : SemLoc sig).isScoped .scScalar = true; decide⟩⟩)]

omit [FloatOps F] in
/-- The column buffer among the sequencer's own. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

/-- The core's share of the call: the table, the columns, and its 512 rows of the output. -/
def coreIn : sProp 𝕄 :=
  iprop((tLoc d ↦{q} (Tb : Buf (Elt F) (tLoc d))) ∗ (cLoc d ↦{q} (C : Buf (Elt F) (cLoc d)))
    ∗ bigSep Finset.univ fun u : Fin 512 => oLoc d ↦[rowSet (512 * (i 0).val + u.val)]{fullShare} (f0 : Buf (Elt F) (oLoc d)))
/-- What it gives back: its rows gathered. -/
def coreOut : sProp 𝕄 := bigSep Finset.univ (delivery d i Tb C)

/-- What the fetch of the core's first columns leaves in the column buffer. -/
theorem bufOk_fetch (fs : S512.Idx → BitVec 32) :
    BufOk i C (View.write (Elt F) sM.view fs
      (View.read (Elt F) (cW.slice (Rect.unit (s := S1024) (k0_off1 i) S512.size (k0_off1_inb i)) (fun _ => rfl)).view C) Finset.univ) := by
  intro t ht
  refine (View.write_emb_of_mem (v := sM.view) _ _ (Finset.mem_univ (ix1 (⟨t, ht⟩ : Fin 512)))).trans ?_
  show C ((Rect.unit (s := S1024) (k0_off1 i) S512.size (k0_off1_inb i)).emb (ix1 (⟨t, ht⟩ : Fin 512))) = _
  congr 1
  funext a
  match a with
  | ⟨0, _⟩ => exact Fin.ext (show k0_off1 i 0 + 1 * t = 512 * (i 0).val + t by rw [off1_eq]; show 512 * (i 0).val + 1 * t = _; omega)

theorem k0_trips : k0_t1_loop.trips = 64 := by decide

/-- The kernel on the sequencer of the core at `i`. -/
theorem body_spec (hC : ColsOk C) (hF : (K (F := F)).Facts) (O : CellTallies nD τ sig (HIx 1)) (W : Waits sig (HIx 1)) (hO : ∀ g, O g none = 0) :
    iprop(levAts (K (F := F)).L (K (F := F)).lev ∗ coreIn d i q Tb C f0
        ∗ scopedBufs (thrS d i) ∗ scopedSems0 (thrS d i) ∗ owes (thrS d i) O W)
      ⊢ wp frame (wpE (defs₀ (F := F)) 𝒱₀ (thrS d i) none) Set.univ
          (cc0_gather_kernel i tW (Memref.isWhole_whole _) cW (Memref.isWhole_whole _) oW (Memref.isWhole_whole _) sM (Memref.isWhole_whole _)
            cc0_scratch1 cc0_scratch2)
          fun _ => iprop(coreOut d i Tb C ∗ scopedBufs (thrS d i) ∗ scopedSems0 (thrS d i)
            ∗ ∃ W', ⌜∀ p ∈ W', p ∈ W ∨ p.2 = none⌝ ∗ owes (thrS d i) O W') := by
  rw [cc0_gather_kernel_eq_skeleton]; unfold cc0_gather_kernel_skel coreIn
  rw [(K (F := F)).scopedBufs_S hF d, SparseCore.Cfg.scopedSems0_S (Val := Elt F) d, ownSems0_S, ownBufs_S]
  iintro ⟨#Hlv, ⟨Ht, Hc, Hr⟩, ⟨⟨⟨%fs, Hs⟩, Hbufs⟩, Hvb⟩, ⟨⟨HsemA, HsemB, Hsems⟩, Hvs⟩, HO⟩
  ihave Hmw := ((K (F := F)).mayWaits_none (thr := thrS d i) hO) $$ Hlv
  ihave Hc' := (show (cLoc d ↦{q} (C : Buf (Elt F) (cLoc d)) : sProp 𝕄) ⊢ ((cW).view.loc (thrS d i) ↦{q} C) from Entails.of_eq rfl) $$ Hc
  ihave Hs' := (show ((thrS d i).loc cc0_scratch0 ↦{fullShare} fs : sProp 𝕄) ⊢ ((sM).view.loc (thrS d i) ↦{fullShare} fs) from Entails.of_eq rfl) $$ Hs
  sl_exec
  imod (batch_alloc' (EC (F := F)) (c := thrS d i) (none : HIx 1) 32768 (delivery d i Tb C) (sm := .dma cc0_scratch2.sem) (E := Set.univ)) $$ HsemB with HB
  sl_for (fun n _ => Inv d i q Tb C f0 (View.write (Elt F) sM.view fs
      (View.read (Elt F) (cW.slice (Rect.unit (s := S1024) (k0_off1 i) S512.size (k0_off1_inb i)) (fun _ => rfl)).view C) Finset.univ) (8 * n)) $$ [Ht Hr Hs' HB]
  case region =>
    intro k acc
    iintro HI
    iapply (trip_spec d i q Tb C f0 _ k hC (bufOk_fetch i C fs) _ _) $$ HI
    iintro HI
    iexact HI
  · unfold Inv
    isplitl [Hs']; · iexact Hs'
    isplitl [Ht]; · iexact Ht
    isplitl [Hr]
    · iapply (Entails.of_eq (bigSep_pending_zero _)); iexact Hr
    iexact HB
  iintro %_ HI
  rw [show 8 * Scf.trips _ _ _ = 512 from congrArg (8 * ·) k0_trips]
  unfold Inv
  icases HI with ⟨Hs, -, -, HB⟩
  simp only [wp_bind]
  have hJ : ((oW.slice (Rect.unit (s := S1024x8x128) (k0_off26 i) S512x8x128.size (k0_off26_inb i)) (fun _ => rfl)).view.dmaCredit) = 16777216 := by
    show RefSig.bitCredit S512x8x128 .f32 = 16777216
    decide
  ihave Hmw1 := (MayWaits.elim (c := thrS d i) (ι := (none : HIx 1)) (.dma cc0_scratch2.sem)) $$ Hmw
  iapply (wp_waitBatchAllO (EC (F := F)) 𝒱₀ (thrS d i) none (none : HIx 1) (N := 32768) (n := 512) (D := delivery d i Tb C) (u := 0) (O := O) hJ (by decide) (by decide)) $$ [HB HO]
  · isplitl [HB]; · iexact HB
    isplitl [HO]; · iexact HO
    iexact Hmw1
  iintro ⟨Hd, HsemB, HO⟩
  simp only [Prog.bind, wp_pure]
  imodintro
  unfold coreOut
  isplitl [Hd]; · iexact Hd
  isplitl [Hs Hbufs Hvb]
  · isplitl [Hs Hbufs]
    · isplitl [Hs]; · iexists _; iexact Hs
      iexact Hbufs
    · iexact Hvb
  isplitl [HsemA HsemB Hsems Hvs]
  · isplitl [HsemA HsemB Hsems]
    · isplitl [HsemA]; · iexact HsemA
      isplitl [HsemB]; · iexact HsemB
      iexact Hsems
    · iexact Hvs
  iexists _
  isplitr
  rotate_left
  · iexact HO
  · ipureintro
    intro p hp
    rcases Finset.mem_insert.mp hp with hp | hp
    · exact .inr (hp ▸ rfl)
    rcases Finset.mem_insert.mp hp with hp | hp
    · exact .inr (hp ▸ rfl)
    · exact .inl hp

end Cert.Proof.Sc

end
-- ==== Proof.LaunchSc.lean ====
/- The SparseCore call as the launch sees it: what each core's sequencer takes and gives back, the kernel under the launch's
   body table, and the output's rows split over the two cores. -/
module

public import proofs.«01_k».proof.Proof.ScRun
public import Idealize.ShloMosaic.Lib.Pipeline.Regions

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tb : Dev nD → S1024x100096.Idx → Elt F .f32) (C : Dev nD → S1024.Idx → BitVec 32) (f0 : Dev nD → S1024x8x128.Idx → Elt F .f32)

/-- The grid coordinates of core `c`. -/
def coordsS (c : Fin (grid0.bound 0)) : grid0.Coords := fun | 0 => c | ⟨_+1, h⟩ => absurd h (Nat.not_lt.2 (Nat.le_add_left _ _))

/-- The half of the table and of the columns that core `n` reads through. -/
def half (n : ℕ) : PosShare TreeShare := if n = 0 then fullShare.left else fullShare.right

/-- What core `n` takes. -/
def takes (d : Dev nD) (n : ℕ) : sProp 𝕄 :=
  if h : n < 2 then coreIn d (coordsS ⟨n, h⟩) (half n) (Tb d) (C d) (f0 d) else iprop(emp)
/-- What core `n` gives back. -/
def given (d : Dev nD) (n : ℕ) : sProp 𝕄 :=
  if h : n < 2 then coreOut d (coordsS ⟨n, h⟩) (Tb d) (C d) else iprop(emp)

instance takes_storable (d : Dev nD) (n : ℕ) : BI.Storable (upEmb : UEmb _ 𝕄) (takes Tb C f0 d n) := by
  unfold takes; split
  · unfold coreIn; infer_instance
  · infer_instance
instance gives_storable (d : Dev nD) (n : ℕ) : BI.Storable (upEmb : UEmb _ 𝕄) (given Tb C d n) := by
  unfold given; split
  · unfold coreOut; infer_instance
  · infer_instance

/-- The launch's handshake contents. -/
def P : (K (F := F)).Pay (nD := nD) (Val := Elt F) (Name := ℕ) (U := UU) where
  st := fun _ d c => takes Tb C f0 d c.val
  dn := fun _ d c => given Tb C d c.val
  go := fun _ _ _ _ => iprop(emp)
  td := fun _ _ _ _ => iprop(emp)
  x := fun _ _ => iprop(emp)

instance P_storable : (P Tb C f0).IsStorable where
  st _ d c := by unfold P; infer_instance
  dn _ d c := by unfold P; infer_instance
  go _ _ _ _ := by unfold P; infer_instance
  td _ _ _ _ := by unfold P; infer_instance

theorem defs₀_scalar (c : Fin τ.nSC) :
    defs₀ (F := F) (.scScalar c) 0 ()
      = SparseCore.onCore hcore0 (fun c => cc0_gather_kernel (coordsS c) tW (Memref.isWhole_whole _) cW (Memref.isWhole_whole _) oW
          (Memref.isWhole_whole _) sM (Memref.isWhole_whole _) cc0_scratch1 cc0_scratch2) ⟨⟩ c := rfl

omit [FloatOps F] in
theorem obl_post {thr : Thread nD τ} {A B X : sProp 𝕄} {O : CellTallies nD τ sig (HIx 1)} {W : Waits sig (HIx 1)} {q : Fin 1} :
    iprop(A ∗ B ∗ X ∗ ∃ W', ⌜∀ p ∈ W', p ∈ W ∨ p.2 = none⌝ ∗ owes thr O W')
      ⊢ iprop(A ∗ B ∗ X ∗ ∃ W', ⌜∀ p ∈ W', p ∈ W ∨ p.2 = none ∨ p.2 = some q⌝ ∗ owes thr O W') := by
  iintro ⟨HA, HB, HX, %W', %hW', HO⟩
  isplitl [HA]; · iexact HA
  isplitl [HB]; · iexact HB
  isplitl [HX]; · iexact HX
  iexists W'; isplitr
  · ipureintro; exact fun p hp => (hW' p hp).imp_right Or.inl
  · iexact HO

omit [FloatOps F] in
theorem drop_emp {A B : sProp 𝕄} : iprop(A ∗ emp ∗ B) ⊢ iprop(A ∗ B) := by
  iintro ⟨Hl, -, H⟩
  isplitl [Hl]; · iexact Hl
  iexact H

variable {C} in
/-- The kernel's run on a core, as the launch asks for it. -/
theorem obl_body (hC : ∀ d, ColsOk (C d)) (d : Dev nD) (c : Fin (grid0.bound 0)) (O : CellTallies nD τ sig (HIx 1)) (W : Waits sig (HIx 1))
    (hO : ∀ g, O g none = 0) :
    iprop(levAts (K (F := F)).L (K (F := F)).lev ∗ emp ∗ takes Tb C f0 d c.val
        ∗ scopedBufs (thrS d (coordsS c)) ∗ scopedSems0 (thrS d (coordsS c)) ∗ owes (thrS d (coordsS c)) O W)
      ⊢ wp frame (wpE (defs₀ (F := F)) 𝒱₀ (thrS d (coordsS c)) none) Set.univ
          (cc0_gather_kernel (coordsS c) tW (Memref.isWhole_whole _) cW (Memref.isWhole_whole _) oW (Memref.isWhole_whole _) sM (Memref.isWhole_whole _)
            cc0_scratch1 cc0_scratch2)
          fun _ => iprop(given Tb C d c.val ∗ scopedBufs (thrS d (coordsS c)) ∗ scopedSems0 (thrS d (coordsS c))
            ∗ ∃ W', ⌜∀ p ∈ W', p ∈ W ∨ p.2 = none⌝ ∗ owes (thrS d (coordsS c)) O W') := by
  have h2 : c.val < 2 := c.isLt
  have e1 : takes Tb C f0 d c.val = coreIn d (coordsS c) (half c.val) (Tb d) (C d) (f0 d) := dif_pos h2
  have e2 : given Tb C d c.val = coreOut d (coordsS c) (Tb d) (C d) := dif_pos h2
  rw [e1, e2]
  exact drop_emp.trans (body_spec d (coordsS c) (half c.val) (Tb d) (C d) (f0 d) (hC d) facts O W hO)

variable {C} in
/-- The launch theorem's obligation at the call. -/
theorem scalarObl (hC : ∀ d, ColsOk (C d)) : (K (F := F)).ScalarObl (D (F := F)) 𝒱 (P Tb C f0) v₀ 0 := by
  intro d c O W hO _ _
  simp only [show (P Tb C f0).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ takes Tb C f0 d c.val ∗ _) ⊢ wp _ _ _ _ (fun _ => iprop(given Tb C d c.val ∗ _))
  exact (obl_body Tb f0 hC d c O W hO).trans (wp_mono frame _ _ fun _ => obl_post)

/-! ## The output's rows -/

/-- The rows of core `n`. -/
theorem rows_disjoint (n : ℕ) : ∀ t ∈ (Finset.univ : Finset (Fin 512)), ∀ t' ∈ (Finset.univ : Finset (Fin 512)), t ≠ t' →
    Disjoint (rowSet (512 * n + t.val)) (rowSet (512 * n + t'.val)) := fun t _ t' _ hne =>
  Finset.disjoint_left.mpr fun p h h' => hne (Fin.ext (by have := (mem_rowSet.mp h).symm.trans (mem_rowSet.mp h'); omega))

def coreRows (n : ℕ) : Finset S1024x8x128.Idx := (Finset.univ : Finset (Fin 512)).biUnion fun t => rowSet (512 * n + t.val)

theorem mem_coreRows {n : ℕ} {p : S1024x8x128.Idx} : p ∈ coreRows n ↔ 512 * n ≤ (p 0).val ∧ (p 0).val < 512 * n + 512 := by
  unfold coreRows
  simp only [Finset.mem_biUnion, Finset.mem_univ, true_and, mem_rowSet]
  constructor
  · rintro ⟨t, ht⟩; have := t.isLt; omega
  · rintro ⟨h1, h2⟩; exact ⟨⟨(p 0).val - 512 * n, by omega⟩, by show _ = 512 * n + ((p 0).val - 512 * n); omega⟩

theorem coreRows_compl : (Finset.univ : Finset S1024x8x128.Idx) \ coreRows 0 = coreRows 1 := by
  ext p
  have : (p 0).val < 1024 := (p 0).isLt
  simp only [Finset.mem_sdiff, Finset.mem_univ, true_and, mem_coreRows]
  omega

/-- The output at contents `g` is its rows, core by core. -/
theorem out_rows (d : Dev nD) (g : S1024x8x128.Idx → Elt F .f32) :
    (oLoc d ↦{fullShare} (g : Buf (Elt F) (oLoc d)) : sProp 𝕄)
      ⊣⊢ iprop((bigSep Finset.univ fun u : Fin 512 => oLoc d ↦[rowSet (512 * 0 + u.val)]{fullShare} (g : Buf (Elt F) (oLoc d)))
          ∗ bigSep Finset.univ fun u : Fin 512 => oLoc d ↦[rowSet (512 * 1 + u.val)]{fullShare} (g : Buf (Elt F) (oLoc d))) := by
  have hb (n : ℕ) := pointsTo_biUnion (ℓ := oLoc d) (q := fullShare) (f := (g : Buf (Elt F) (oLoc d))) (Ix := HIx 1) (Name := ℕ) (U := UU) (Lvl := ℕ)
    (Finset.univ : Finset (Fin 512)) (fun t => rowSet (512 * n + t.val)) (rows_disjoint n)
  have hs := pointsTo_split_subset (ℓ := oLoc d) (q := fullShare) (f := (g : Buf (Elt F) (oLoc d))) (Ix := HIx 1) (Name := ℕ) (U := UU) (Lvl := ℕ)
    (I := coreRows 0) (S := Finset.univ) (Finset.subset_univ _)
  rw [coreRows_compl] at hs
  rw [← hb 0, ← hb 1]
  exact hs

/-- The whole table, columns and output are what the two cores take. -/
theorem take_all (d : Dev nD) :
    iprop((tLoc d ↦{fullShare} (Tb d : Buf (Elt F) (tLoc d))) ∗ (cLoc d ↦{fullShare} (C d : Buf (Elt F) (cLoc d)))
        ∗ oLoc d ↦{fullShare} (f0 d : Buf (Elt F) (oLoc d)))
      ⊢ (bigSep Finset.univ fun c : Fin ((K (F := F)).nCore 0) => (P Tb C f0).st 0 d c : sProp 𝕄) := by
  have e : (bigSep Finset.univ fun c : Fin ((K (F := F)).nCore 0) => (P Tb C f0).st 0 d c : sProp 𝕄)
      = iprop(coreIn d (coordsS ⟨0, by decide⟩) fullShare.left (Tb d) (C d) (f0 d) ∗ coreIn d (coordsS ⟨1, by decide⟩) fullShare.right (Tb d) (C d) (f0 d)) := by
    show (bigSep (Finset.univ : Finset (Fin 2)) fun c => takes Tb C f0 d c.val) = _
    rw [show (Finset.univ : Finset (Fin 2)) = {0, 1} by decide, SparseCore.bigSep_insert' (by decide), bigSep_singleton]
    rfl
  rw [e]
  unfold coreIn
  iintro ⟨Ht, Hc, Ho⟩
  ihave Ht := (pointsTo_share (PosShare.mem_left_op_right fullShare)).mp $$ Ht
  ihave Hc := (pointsTo_share (PosShare.mem_left_op_right fullShare)).mp $$ Hc
  ihave Ho := (out_rows d (f0 d)).mp $$ Ho
  icases Ht with ⟨Ht0, Ht1⟩
  icases Hc with ⟨Hc0, Hc1⟩
  icases Ho with ⟨Ho0, Ho1⟩
  isplitl [Ht0 Hc0 Ho0]
  · isplitl [Ht0]; · iexact Ht0
    isplitl [Hc0]; · iexact Hc0
    iexact Ho0
  · isplitl [Ht1]; · iexact Ht1
    isplitl [Hc1]; · iexact Hc1
    iexact Ho1

/-- What they give back is the output, gathered. -/
theorem give_all (d : Dev nD) :
    (bigSep Finset.univ fun c : Fin ((K (F := F)).nCore 0) => (P Tb C f0).dn 0 d c : sProp 𝕄)
      ⊢ (oLoc d ↦{fullShare} (gathered (Tb d) (C d) : Buf (Elt F) (oLoc d))) := by
  have e : (bigSep Finset.univ fun c : Fin ((K (F := F)).nCore 0) => (P Tb C f0).dn 0 d c : sProp 𝕄)
      = iprop(coreOut d (coordsS ⟨0, by decide⟩) (Tb d) (C d) ∗ coreOut d (coordsS ⟨1, by decide⟩) (Tb d) (C d)) := by
    show (bigSep (Finset.univ : Finset (Fin 2)) fun c => given Tb C d c.val) = _
    rw [show (Finset.univ : Finset (Fin 2)) = {0, 1} by decide, SparseCore.bigSep_insert' (by decide), bigSep_singleton]
    rfl
  rw [e]
  exact (out_rows d (gathered (Tb d) (C d))).mpr

end Cert.Proof.Sc

end
-- ==== Proof.TcBody.lean ====
/- The TensorCore kernel's body at one grid point, on any whole memrefs: at the first point it computes the carried
   columns from the gathered slivers, at the others it reads them; at each it rewrites its block of the result. -/
module

public import proofs.«01_k».proof.Proof.ScRun
public import proofs.«01_k».proof.Proof.Gen.KernelIdeal.Skeleton
public import Idealize.ShloMosaic.Lib.Pipeline.FrameBody
public import Idealize.ShloMosaic.Lib.Pipeline.Value
public import Idealize.ShloMosaic.Lib.VecWindow

@[expose] public section

noncomputable section

namespace Cert.Proof.Tc

open Cert.KernelIdeal Cert.KernelIdeal.Gen Cert.Proof.Sc

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

/-- The zero offsets. -/
theorem off_zero : (![0, 0] : Fin 2 → ℕ) = fun _ => 0 := funext fun a => by fin_cases a <;> rfl

/-- A load of a whole memref reads its contents. -/
theorem readAt_full {κ : Kind} {sp : Space} {s : Shape} {e : EltTy} (v : View sig κ sp s e) {off : Fin s.rank → ℕ} (h : off = fun _ => 0)
    (inb : ∀ a, off a + s.size a ≤ s.size a) (f : v.ty.Contents (Elt F)) :
    v.readAt (Elt F) (Rect.unit off s.size inb).toLoadRect f = v.read (Elt F) f :=
  (View.readAt_eq_ld v f _).trans (View.ld_unit_zero h inb _)

/-- A carried column's 256 rows of the point's row block. -/
def rowsAt (i : grid1.Coords) (A : Vec F S1024x1 .f32) : Vec F S256x1 .f32 :=
  View.ld A (Rect.unit (s := S1024x1) (k1_off1 i) S256x1.size (k1_off1_inb i))

/-- Whether the point is the first one. -/
def isFirst (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The carried margin column from the slivers and the selected lanes. -/
def ctmOf (X3 : Vec F S1024x1024 .f32) (X4 : Vec F S1024x1 .i32) : Vec F S1024x1 .f32 := k1_pay4 (k1_pay3 X3 X4)

/-- The carried target column. -/
def ftlOf (X3 : Vec F S1024x1024 .f32) (X4 : Vec F S1024x1 .i32) : Vec F S1024x1 .f32 := k1_pay5 (k1_pay1 X3 X4) (k1_pay3 X3 X4)

section

variable (c : Dev nD) (i : grid1.Coords)
  (arg2 : Memref sig .tc .vmem S256x4096 .f32) (harg2 : arg2.IsWhole) (arg3 : Memref sig .tc .vmem S1024x1024 .f32) (harg3 : arg3.IsWhole)
  (arg4 : Memref sig .tc .vmem S1024x1 .i32) (harg4 : arg4.IsWhole) (arg5 : Memref sig .tc .vmem S256x1 .i32) (harg5 : arg5.IsWhole)
  (arg6 : Memref sig .tc .vmem S1x1 .f32) (harg6 : arg6.IsWhole) (arg7 : Memref sig .tc .vmem S256x4096 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .smem S1x1 .f32) (harg10 : arg10.IsWhole)
  (X2 : Vec F S256x4096 .f32) (X3 : Vec F S1024x1024 .f32) (X4 : Vec F S1024x1 .i32) (X5 : Vec F S256x1 .i32) (X6 : Vec F S1x1 .f32)

/-- The body at a point that is not the first one. -/
theorem body_rest (hi : ¬ isFirst i) (A8 A9 : Vec F S1024x1 .f32) (A10 : Vec F S1x1 .f32) (Q : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ (∃ d, owns (c : Thread nD τ) arg7 fullShare d)
        ∗ owns (c : Thread nD τ) arg8 fullShare A8 ∗ owns (c : Thread nD τ) arg9 fullShare A9 ∗ owns (c : Thread nD τ) arg10 fullShare A10
        ∗ (iprop(owns (c : Thread nD τ) arg2 fullShare X2 ∗ owns (c : Thread nD τ) arg3 fullShare X3 ∗ owns (c : Thread nD τ) arg4 fullShare X4
            ∗ owns (c : Thread nD τ) arg5 fullShare X5 ∗ owns (c : Thread nD τ) arg6 fullShare X6
            ∗ owns (c : Thread nD τ) arg7 fullShare (k1_pay6 i (A10 (ix2 0 0)) (rowsAt i A8) (rowsAt i A9) X2 X5)
            ∗ owns (c : Thread nD τ) arg8 fullShare A8 ∗ owns (c : Thread nD τ) arg9 fullShare A9 ∗ owns (c : Thread nD τ) arg10 fullShare A10) -∗ Q ⟨⟩))
      ⊢ wp frame (wpE (defs₀ (F := F)) 𝒱₀ (c : Thread nD τ) none) Set.univ
          (cc1__tc_body i arg2 harg2 arg3 harg3 arg4 harg4 arg5 harg5 arg6 harg6 arg7 harg7 arg8 harg8 arg9 harg9 arg10 harg10) Q := by
  rw [cc1__tc_body_eq_skeleton]; unfold cc1__tc_body_skel
  rw [k1_part2_eq_skeleton]; unfold k1_part2_skel
  unfold isFirst at hi
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, %h8, H8⟩, ⟨%f9, %h9, H9⟩, ⟨%f10, %h10, H10⟩, Hk⟩
  subst h2 h3 h4 h5 h6 h8 h9 h10
  have e2 := readAt_full (F := F) (s := S256x4096) (off := ![0, 0]) arg2.view off_zero inb_S256x4096_S256x4096_0_0 f2
  have e5 := readAt_full (F := F) (s := S256x1) (off := ![0, 0]) arg5.view off_zero inb_S256x1_S256x1_0_0 f5
  have e10 : View.readAt (Elt F) arg10.view (Rect.unit ![0, 0] S1x1.size inb_S1x1_S1x1_0_0).toLoadRect f10
      (Shape.Idx.first (s := S1x1) (numel1_S1x1.symm ▸ Nat.one_pos)) = View.read (Elt F) arg10.view f10 (ix2 0 0) :=
    (congrFun (readAt_full (F := F) (s := S1x1) (off := ![0, 0]) arg10.view off_zero inb_S1x1_S1x1_0_0 f10) _).trans
      (congrArg (View.read (Elt F) arg10.view f10) (funext fun a => match a with
        | ⟨0, _⟩ => Subsingleton.elim (α := Fin 1) _ _
        | ⟨1, _⟩ => Subsingleton.elim (α := Fin 1) _ _))
  sl_exec (disch := exact hi)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_full]
    unfold body_rest.sl.r
    rw [e10]
    rfl
  isplitl [H8]
  · iexists f8; isplitr; · ipureintro; rfl
    iexact H8
  isplitl [H9]
  · iexists f9; isplitr; · ipureintro; rfl
    iexact H9
  · iexists f10; isplitr; · ipureintro; rfl
    iexact H10

/-- The body at the first point: the carried columns come from the slivers' block, the selected lanes and the running mean. -/
theorem body_first (hi : isFirst i) (Q : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare X2 ∗ owns (c : Thread nD τ) arg3 fullShare X3 ∗ owns (c : Thread nD τ) arg4 fullShare X4
            ∗ owns (c : Thread nD τ) arg5 fullShare X5 ∗ owns (c : Thread nD τ) arg6 fullShare X6
            ∗ owns (c : Thread nD τ) arg7 fullShare (k1_pay6 i (k1_pay2 X3 X4 X6) (rowsAt i (ctmOf X3 X4)) (rowsAt i (ftlOf X3 X4)) X2 X5)
            ∗ owns (c : Thread nD τ) arg8 fullShare (ctmOf X3 X4) ∗ owns (c : Thread nD τ) arg9 fullShare (ftlOf X3 X4) ∗ owns (c : Thread nD τ) arg10 fullShare (fun _ => k1_pay2 X3 X4 X6)) -∗ Q ⟨⟩))
      ⊢ wp frame (wpE (defs₀ (F := F)) 𝒱₀ (c : Thread nD τ) none) Set.univ
          (cc1__tc_body i arg2 harg2 arg3 harg3 arg4 harg4 arg5 harg5 arg6 harg6 arg7 harg7 arg8 harg8 arg9 harg9 arg10 harg10) Q := by
  rw [cc1__tc_body_eq_skeleton]; unfold cc1__tc_body_skel
  rw [k1_part2_eq_skeleton]; unfold k1_part2_skel
  unfold isFirst at hi
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, Hk⟩
  subst h2 h3 h4 h5 h6
  have e2 := readAt_full (F := F) (s := S256x4096) (off := ![0, 0]) arg2.view off_zero inb_S256x4096_S256x4096_0_0 f2
  have e3 := readAt_full (F := F) (s := S1024x1024) (off := ![0, 0]) arg3.view off_zero inb_S1024x1024_S1024x1024_0_0 f3
  have e4 := readAt_full (F := F) (s := S1024x1) (off := ![0, 0]) arg4.view off_zero inb_S1024x1_S1024x1_0_0 f4
  have e5 := readAt_full (F := F) (s := S256x1) (off := ![0, 0]) arg5.view off_zero inb_S256x1_S256x1_0_0 f5
  have e6 := readAt_full (F := F) (s := S1x1) (off := ![0, 0]) arg6.view off_zero inb_S1x1_S1x1_0_0 f6
  sl_exec (disch := exact hi)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_full]
    unfold body_first.sl.r_3 body_first.sl.H8_1 body_first.sl.H9_1
    rw [View.readAt_eq_ld, View.readAt_eq_ld, View.read_writes_full, View.read_writes_full]
    unfold body_first.sl.r_1 body_first.sl.r_2
    rfl
  isplitl [H8]
  · iexists _; isplitr
    swap; · iexact H8
    ipureintro
    unfold body_first.sl.H8_1
    rw [View.read_writes_full]
    try unfold body_first.sl.r_1
    unfold body_first.sl.r_2
    rfl
  isplitl [H9]
  · iexists _; isplitr
    swap; · iexact H9
    ipureintro
    unfold body_first.sl.H9_1
    rw [View.read_writes_full]
    try unfold body_first.sl.r_1
    unfold body_first.sl.r_2
    rfl
  · iexists _; isplitr
    swap; · iexact H10
    ipureintro
    rw [View.read_writes_full]
    rfl

end

end Cert.Proof.Tc

end
-- ==== Proof.TcVal.lean ====
/- The TensorCore kernel's result as one function of its operands: what every grid point writes is its block of it. -/
module

public import proofs.«01_k».proof.Proof.TcBody
public import proofs.«01_k».proof.Proof.Gen.KernelIdeal.Points
public import Idealize.ShloMosaic.Lib.Pipeline.Covers

@[expose] public section

noncomputable section

namespace Cert.Proof.Tc

open Cert.KernelIdeal Cert.KernelIdeal.Gen Cert.Proof.Sc

open Idealize.ShloMosaic Idealize.ShloMosaic.TcCoe Idealize.ShloMosaic.ValueIdx

variable {F : FTy → Type} [FloatOps F]

/-- The clipped cosine. -/
def clipOf (x : F .f32) : F .f32 :=
  FloatOps.minimumf (Scalar.ofBits .f32 0x3F800000#32) (FloatOps.maximumf (Scalar.ofBits .f32 0xBF800000#32) x)

/-- One element of the result: the target column's own value, else the scaled cosine, hardened where it exceeds its row's margin. -/
def elemOf (hit : BitVec 1) (x ctm ftl tn : F .f32) : F .f32 :=
  Scalar.select hit ftl (Scalar.select (FloatOps.cmpf .ogt (clipOf x) ctm)
    (FloatOps.mulf (FloatOps.mulf (clipOf x) (Scalar.ofBits .f32 0x42800000#32)) (FloatOps.addf tn (clipOf x)))
    (FloatOps.mulf (clipOf x) (Scalar.ofBits .f32 0x42800000#32)))

/-- A column broadcast over the block's lanes reads its row. -/
theorem bcast_col {α : Type} (v : S256x1.Idx → α) (r : Fin 256) (l : Fin 4096) :
    broadcastTo S256x4096 v broadcasts_S256x1_S256x4096 (ix2 r l) = v (ix2 r 0) :=
  broadcastTo_apply v _ _ _ fun a => match a with | ⟨0, _⟩ => rfl | ⟨1, _⟩ => rfl

/-- A point's block of the result, element by element. -/
theorem pay6_apply (i : grid1.Coords) (v5 : F .f32) (v8 v11 : Vec F S256x1 .f32) (v12 : Vec F S256x4096 .f32) (v29 : Vec F S256x1 .i32)
    (r : Fin 256) (l : Fin 4096) :
    k1_pay6 i v5 v8 v11 v12 v29 (ix2 r l)
      = elemOf (Scalar.cmpi .eq (BitVec.ofNat 32 l.val + BitVec.ofNat 32 (i 1).val * 4096#32) (v29 (ix2 r 0)))
          (v12 (ix2 r l)) (v8 (ix2 r 0)) (v11 (ix2 r 0)) v5 := by
  unfold k1_pay6
  simp only [shapeCast_self, select_apply, bcast_col, cmpf_apply]
  rw [show cmpi .eq (addi (iota .tc S256x4096 32 [1] iota_S256x4096_d1_w32) (broadcast S256x4096 (Scalar.muli (BitVec.ofNat 32 (i 1).val) 4096#32)))
      (broadcastTo S256x4096 v29 broadcasts_S256x1_S256x4096) (ix2 r l)
      = Scalar.cmpi .eq (BitVec.ofNat 32 (0 * 4096 + l.val) + BitVec.ofNat 32 (i 1).val * 4096#32) (broadcastTo S256x4096 v29 broadcasts_S256x1_S256x4096 (ix2 r l)) from rfl,
    bcast_col, Nat.zero_mul, Nat.zero_add]
  rfl

/-- The kernel's result from its operands. -/
def outOf (x : Vec F S1024x100000 .f32) (sl : Vec F S1024x1024 .f32) (sel tgt : Vec F S1024x1 .i32) (tm : Vec F S1x1 .f32) : Vec F S1024x100000 .f32 :=
  fun p => elemOf (Scalar.cmpi .eq (BitVec.ofNat 32 (p 1).val) (tgt (ix2 (p 0) 0))) (x p) (ctmOf sl sel (ix2 (p 0) 0)) (ftlOf sl sel (ix2 (p 0) 0)) (k1_pay2 sl sel tm)

/-- The point's row block and column block. -/
theorem coords_lt0 (i : grid1.Coords) : (i 0).val < 4 := (i 0).isLt
theorem coords_lt1 (i : grid1.Coords) : (i 1).val < 25 := (i 1).isLt

/-- The first row of a point's row block. -/
theorem k1_off1_eq (i : grid1.Coords) : k1_off1 i = ![256 * (i 0).val, 0] := by
  have h := coords_lt0 i
  funext a
  match a with
  | ⟨0, _⟩ =>
    show (BitVec.ofNat 32 (i 0).val * 256#32).toNat = _
    show _ = 256 * (i 0).val
    rw [BitVec.toNat_mul, BitVec.toNat_ofNat]
    simp only [BitVec.toNat_ofNat]; omega
  | ⟨1, _⟩ => rfl

/-- A carried column's rows at a point. -/
theorem rowsAt_apply (i : grid1.Coords) (A : Vec F S1024x1 .f32) (r : Fin 256) (hr : 256 * (i 0).val + r.val < 1024) :
    rowsAt i A (ix2 r 0) = A (ix2 ⟨256 * (i 0).val + r.val, hr⟩ 0) := by
  unfold rowsAt
  refine congrArg A (funext fun a => Fin.ext ?_)
  match a with
  | ⟨0, _⟩ => show k1_off1 i 0 + 1 * r.val = _; rw [k1_off1_eq]; show 256 * (i 0).val + 1 * r.val = 256 * (i 0).val + r.val; omega
  | ⟨1, _⟩ => show k1_off1 i 1 + 1 * 0 = _; rw [k1_off1_eq]; rfl

/-- The only first point is point 0. -/
theorem isFirst_iff (t : Fin cfg1.N) : isFirst (grid1.coords t) ↔ t.val = 0 := by
  have : ∀ t : Fin grid1.N, isFirst (grid1.coords t) ↔ t.val = 0 := by unfold isFirst; decide +kernel
  exact this t

/-- Where a window of the big array puts an element of a point's block. -/
theorem emb0 (t : Fin cfg1.N) (j : (win1_0.xblock (grid1.coords t)).Idx) (a : Fin 2) :
    ((win1_0.blk t).view.emb j a).val = (if a = 0 then 256 * (grid1.coords t 0).val else 4096 * (grid1.coords t 1).val) + (j a).val := by
  have h0 := coords_lt0 (grid1.coords t)
  have h1 := coords_lt1 (grid1.coords t)
  match a with
  | ⟨0, _⟩ =>
    show (BitVec.ofNat 32 (grid1.coords t 0).val).toNat * 256 + 1 * (j 0).val = 256 * (grid1.coords t 0).val + (j 0).val
    rw [BitVec.toNat_ofNat]; omega
  | ⟨1, _⟩ =>
    show (BitVec.ofNat 32 (grid1.coords t 1).val).toNat * 4096 + 1 * (j 1).val = 4096 * (grid1.coords t 1).val + (j 1).val
    rw [BitVec.toNat_ofNat]; omega

theorem emb5 (t : Fin cfg1.N) (j : (win1_5.xblock (grid1.coords t)).Idx) (a : Fin 2) :
    ((win1_5.blk t).view.emb j a).val = (if a = 0 then 256 * (grid1.coords t 0).val else 4096 * (grid1.coords t 1).val) + (j a).val :=
  emb0 t j a

/-- The rows of the target column a point's block of it holds. -/
theorem read3 (t : Fin cfg1.N) (tgt : Vec F S1024x1 .i32) (r : Fin 256) (hr : 256 * (grid1.coords t 0).val + r.val < 1024) :
    (win1_3.blk t).view.read (Elt F) tgt (ix2 r 0) = tgt (ix2 ⟨256 * (grid1.coords t 0).val + r.val, hr⟩ 0) := by
  refine congrArg tgt (funext fun a => Fin.ext ?_)
  have h0 := coords_lt0 (grid1.coords t)
  match a with
  | ⟨0, _⟩ =>
    show (BitVec.ofNat 32 (grid1.coords t 0).val).toNat * 256 + 1 * r.val = 256 * (grid1.coords t 0).val + r.val
    rw [BitVec.toNat_ofNat]; omega
  | ⟨1, _⟩ => rfl

/-- The windows that hold a whole array read it whole at every point. -/
theorem read1 (t : Fin cfg1.N) (f : Vec F S1024x1024 .f32) : (win1_1.blk t).view.read (Elt F) f = f :=
  funext fun j => congrArg f (funext fun a => Fin.ext (match a with
    | ⟨0, _⟩ => show 0 * 1024 + 1 * (j 0).val = (j 0).val by omega
    | ⟨1, _⟩ => show 0 * 1024 + 1 * (j 1).val = (j 1).val by omega))
theorem read2 (t : Fin cfg1.N) (f : Vec F S1024x1 .i32) : (win1_2.blk t).view.read (Elt F) f = f :=
  funext fun j => congrArg f (funext fun a => Fin.ext (match a with
    | ⟨0, _⟩ => show 0 * 1024 + 1 * (j 0).val = (j 0).val by omega
    | ⟨1, _⟩ => show 0 * 1 + 1 * (j 1).val = (j 1).val by omega))
theorem read4 (t : Fin cfg1.N) (f : Vec F S1x1 .f32) : (win1_4.blk t).view.read (Elt F) f = f :=
  funext fun j => congrArg f (funext fun a => Fin.ext (match a with
    | ⟨0, _⟩ => show 0 * 1 + 1 * (j 0).val = (j 0).val by omega
    | ⟨1, _⟩ => show 0 * 1 + 1 * (j 1).val = (j 1).val by omega))

/-- The part of a point's block that lies in the array is the array's result there, whatever lies past the array's end. -/
theorem cut_pay6 (x : Vec F S1024x100000 .f32) (sl : Vec F S1024x1024 .f32) (sel tgt : Vec F S1024x1 .i32) (tm : Vec F S1x1 .f32)
    (t : Fin cfg1.N) (d : Vec F S256x4096 .f32) :
    win1_5.cut (grid1.coords t) (k1_pay6 (grid1.coords t) (k1_pay2 sl sel tm) (rowsAt (grid1.coords t) (ctmOf sl sel)) (rowsAt (grid1.coords t) (ftlOf sl sel))
        (win1_0.fill (grid1.coords t) d ((win1_0.blk t).view.read (Elt F) x)) ((win1_3.blk t).view.read (Elt F) tgt))
      = (win1_5.blk t).view.read (Elt F) (outOf x sl sel tgt tm) := by
  have h0 := coords_lt0 (grid1.coords t)
  have h1 := coords_lt1 (grid1.coords t)
  funext j
  have hj0 : (j 0).val < 256 := (win1_5.xinj (grid1.coords t) j 0).isLt
  have hj1 : (j 1).val < 4096 := (win1_5.xinj (grid1.coords t) j 1).isLt
  have hr : 256 * (grid1.coords t 0).val + (j 0).val < 1024 := by omega
  have hx : win1_5.xinj (grid1.coords t) j = ix2 (⟨(j 0).val, hj0⟩ : Fin 256) (⟨(j 1).val, hj1⟩ : Fin 4096) :=
    funext fun a => match a with | ⟨0, _⟩ => rfl | ⟨1, _⟩ => rfl
  have hf : win1_0.fill (grid1.coords t) d ((win1_0.blk t).view.read (Elt F) x) (ix2 (⟨(j 0).val, hj0⟩ : Fin 256) (⟨(j 1).val, hj1⟩ : Fin 4096))
      = x ((win1_5.blk t).view.emb j) := hx ▸ win1_0.fill_xinj (grid1.coords t) d ((win1_0.blk t).view.read (Elt F) x) j
  have e0 : (win1_5.blk t).view.emb j 0 = (⟨256 * (grid1.coords t 0).val + (j 0).val, hr⟩ : Fin 1024) := Fin.ext (emb5 t j 0)
  have e1 : ((win1_5.blk t).view.emb j 1).val = 4096 * (grid1.coords t 1).val + (j 1).val := emb5 t j 1
  show k1_pay6 _ _ _ _ _ _ (win1_5.xinj (grid1.coords t) j) = outOf x sl sel tgt tm ((win1_5.blk t).view.emb j)
  rw [hx, pay6_apply, hf, rowsAt_apply _ _ _ hr, rowsAt_apply _ _ _ hr, read3 t tgt _ hr]
  unfold outOf
  rw [e0, e1, show BitVec.ofNat 32 (j 1).val + BitVec.ofNat 32 (grid1.coords t 1).val * 4096#32 = BitVec.ofNat 32 (4096 * (grid1.coords t 1).val + (j 1).val) from by
    rw [← BitVec.ofNat_mul, ← BitVec.ofNat_add]; congr 1; omega]

/-- Every element of the result is in some point's block. -/
theorem cover5 (p : S1024x100000.Idx) : ∃ t : Fin cfg1.N, (cfg1.win 5).flush t = true ∧ p ∈ (win1_5.blk t).view.set := by
  have hp0 : (p 0).val < 1024 := (p 0).isLt
  have hp1 : (p 1).val < 100000 := (p 1).isLt
  obtain ⟨t, ht⟩ := grid1.coords_surjective (fun a => match a with
    | ⟨0, _⟩ => (⟨(p 0).val / 256, by omega⟩ : Fin 4)
    | ⟨1, _⟩ => (⟨(p 1).val / 4096, by omega⟩ : Fin 25))
  have c0 : (grid1.coords t 0).val = (p 0).val / 256 := congrArg Fin.val (congrFun ht 0)
  have c1 : (grid1.coords t 1).val = (p 1).val / 4096 := congrArg Fin.val (congrFun ht 1)
  have x0 : (p 0).val % 256 < win1_5.xsize (grid1.coords t) 0 := by
    rcases win1_5.xsize_eq_or_end rfl (grid1.coords t) 0 with h | h
    · rw [h]; exact Nat.mod_lt _ (by decide)
    · have h : 1024 ≤ (BitVec.ofNat 32 (grid1.coords t 0).val).toNat * 256 + win1_5.xsize (grid1.coords t) 0 := h
      rw [BitVec.toNat_ofNat] at h; omega
  have x1 : (p 1).val % 4096 < win1_5.xsize (grid1.coords t) 1 := by
    rcases win1_5.xsize_eq_or_end rfl (grid1.coords t) 1 with h | h
    · rw [h]; exact Nat.mod_lt _ (by decide)
    · have h : 100000 ≤ (BitVec.ofNat 32 (grid1.coords t 1).val).toNat * 4096 + win1_5.xsize (grid1.coords t) 1 := h
      rw [BitVec.toNat_ofNat] at h; omega
  let j : (win1_5.xblock (grid1.coords t)).Idx := fun a => match a with
    | ⟨0, _⟩ => ⟨(p 0).val % 256, x0⟩
    | ⟨1, _⟩ => ⟨(p 1).val % 4096, x1⟩
  have e : (win1_5.blk t).view.emb j = p := funext fun a => Fin.ext (match a with
    | ⟨0, _⟩ => (emb5 t j 0).trans (by show 256 * (grid1.coords t 0).val + (p 0).val % 256 = (p 0).val; omega)
    | ⟨1, _⟩ => (emb5 t j 1).trans (by show 4096 * (grid1.coords t 1).val + (p 1).val % 4096 = (p 1).val; omega))
  exact ⟨t, flush1_5 t, e ▸ (win1_5.blk t).view.emb_mem_set j⟩

end Cert.Proof.Tc
-- ==== Proof.TcRegion.lean ====
/- The TensorCore pallas_call as a region: its windows' contents, the carried scratch, the body's obligation at every grid
   point, and the region's record for the run of @main. -/
module

public import proofs.«01_k».proof.Proof.TcVal
public import proofs.«01_k».proof.Proof.Gen.KernelIdeal.Launch
public import Idealize.ShloMosaic.Lib.Pipeline.RegionArrays

@[expose] public section

noncomputable section

namespace Cert.Proof.Tc

open Cert.KernelIdeal Cert.KernelIdeal.Gen Cert.Proof.Sc

open Idealize.ShloMosaic Idealize.ShloMosaic.TcCoe Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

variable (x : Vec F S1024x100000 .f32) (sl : Vec F S1024x1024 .f32) (sel tgt : Vec F S1024x1 .i32) (tm : Vec F S1x1 .f32) (o0 : Vec F S1024x100000 .f32)
  (Rec : Set (SemLoc sig × HIx 1))

/-- The carried scratch at any contents. -/
def scrAny (c : Dev nD) : sProp 𝕄 :=
  iprop((∃ d, owns (c : Thread nD τ) (Memref.whole cc1_scratch0) fullShare d) ∗ (∃ d, owns (c : Thread nD τ) (Memref.whole cc1_scratch1) fullShare d)
    ∗ ∃ d, owns (c : Thread nD τ) (Memref.whole cc1_scratch2) fullShare d)

/-- The carried scratch as the first point leaves it. -/
def scrSet (c : Dev nD) : sProp 𝕄 :=
  iprop(owns (c : Thread nD τ) (Memref.whole cc1_scratch0) fullShare (ctmOf sl sel) ∗ owns (c : Thread nD τ) (Memref.whole cc1_scratch1) fullShare (ftlOf sl sel)
    ∗ owns (c : Thread nD τ) (Memref.whole cc1_scratch2) fullShare (fun _ => k1_pay2 sl sel tm))

/-- The invariant between points: before the first one the scratch holds anything. -/
def PhiAt (c : Dev nD) (t : ℕ) : sProp 𝕄 := if t = 0 then scrAny c else scrSet sl sel tm c

/-- The windows' contents: the inputs are read, the output's block is the result's block. -/
def dats (_ : Fin 1) (c : Dev nD) : Pipeline.Dat τ (Elt F) (HIx 1) ℕ UU ℕ cfg1 c where
  A w := match w with
    | ⟨0, _⟩ => x
    | ⟨1, _⟩ => sl
    | ⟨2, _⟩ => sel
    | ⟨3, _⟩ => tgt
    | ⟨4, _⟩ => tm
    | ⟨5, _⟩ => o0
  after w t := match w with
    | ⟨0, _⟩ => win1_0.fill (grid1.coords t) (fun _ => Scalar.ofBits .f32 0#32) ((win1_0.blk t).view.read (Elt F) x)
    | ⟨1, _⟩ => sl
    | ⟨2, _⟩ => sel
    | ⟨3, _⟩ => (win1_3.blk t).view.read (Elt F) tgt
    | ⟨4, _⟩ => tm
    | ⟨5, _⟩ => win1_5.fill (grid1.coords t) (fun _ => Scalar.ofBits .f32 0#32) ((win1_5.blk t).view.read (Elt F) (outOf x sl sel tgt tm))
  Φ t := PhiAt sl sel tm c t.val
  q _ := fullShare
  owed _ := 0
  recorded _ := Rec

local notation "dt" => dats x sl sel tgt tm o0 Rec 0

theorem before_0 (c : Dev nD) (t : Fin cfg1.N) (d) :
    (dt c).before 0 t d = win1_0.fill (grid1.coords t) d ((win1_0.blk t).view.read (Elt F) x) := by
  unfold Pipeline.Dat.before; rw [if_pos (fetch1_0 t)]; rfl

theorem before_1 (c : Dev nD) (t : Fin cfg1.N) (d) : (dt c).before 1 t d = sl :=
  ((dt c).before_in_eq_fetched 1 rfl (fun _ => rfl) (fun _ _ _ => rfl) (fun t => (read1 t sl).symm) t d).trans (read1 t sl)

theorem before_2 (c : Dev nD) (t : Fin cfg1.N) (d) : (dt c).before 2 t d = sel :=
  ((dt c).before_in_eq_fetched 2 rfl (fun _ => rfl) (fun _ _ _ => rfl) (fun t => (read2 t sel).symm) t d).trans (read2 t sel)

theorem before_3 (c : Dev nD) (t : Fin cfg1.N) (d) : (dt c).before 3 t d = (win1_3.blk t).view.read (Elt F) tgt :=
  (dt c).before_in_eq_fetched 3 rfl (fun _ => rfl) (fun _ _ _ => rfl) (fun _ => rfl) t d

theorem before_4 (c : Dev nD) (t : Fin cfg1.N) (d) : (dt c).before 4 t d = tm :=
  ((dt c).before_in_eq_fetched 4 rfl (fun _ => rfl) (fun _ _ _ => rfl) (fun t => (read4 t tm).symm) t d).trans (read4 t tm)

theorem before_5 (c : Dev nD) (t : Fin cfg1.N) (d) : (dt c).before 5 t d = d :=
  (dt c).before_out_reset 5 rfl t (by
    by_cases h : t.val = 0
    · exact .inl h
    · exact .inr ⟨h, flush1_5 _⟩) d

/-- The body at a point, on the windows' contents there. -/
theorem body_at (c : Dev nD) (t : Fin cfg1.N) (d0 : Vec F S256x4096 .f32) (Q : PUnit → sProp 𝕄) :
    iprop(PhiAt sl sel tm c t.val
        ∗ owns (c : Thread nD τ) (st1_0 t) fullShare (win1_0.fill (grid1.coords t) d0 ((win1_0.blk t).view.read (Elt F) x))
        ∗ owns (c : Thread nD τ) (st1_1 t) fullShare sl ∗ owns (c : Thread nD τ) (st1_2 t) fullShare sel
        ∗ owns (c : Thread nD τ) (st1_3 t) fullShare ((win1_3.blk t).view.read (Elt F) tgt) ∗ owns (c : Thread nD τ) (st1_4 t) fullShare tm
        ∗ (∃ d, owns (c : Thread nD τ) (st1_5 t) fullShare d)
        ∗ (iprop(PhiAt sl sel tm c (t.val + 1)
            ∗ owns (c : Thread nD τ) (st1_0 t) fullShare (win1_0.fill (grid1.coords t) d0 ((win1_0.blk t).view.read (Elt F) x))
            ∗ owns (c : Thread nD τ) (st1_1 t) fullShare sl ∗ owns (c : Thread nD τ) (st1_2 t) fullShare sel
            ∗ owns (c : Thread nD τ) (st1_3 t) fullShare ((win1_3.blk t).view.read (Elt F) tgt) ∗ owns (c : Thread nD τ) (st1_4 t) fullShare tm
            ∗ owns (c : Thread nD τ) (st1_5 t) fullShare (k1_pay6 (grid1.coords t) (k1_pay2 sl sel tm) (rowsAt (grid1.coords t) (ctmOf sl sel)) (rowsAt (grid1.coords t) (ftlOf sl sel))
                (win1_0.fill (grid1.coords t) d0 ((win1_0.blk t).view.read (Elt F) x)) ((win1_3.blk t).view.read (Elt F) tgt))) -∗ Q ⟨⟩))
      ⊢ wp frame (wpE (defs₀ (F := F)) 𝒱₀ (c : Thread nD τ) none) Set.univ (bodyAt1 t) Q := by
  by_cases h : t.val = 0
  · have hb := body_first c (grid1.coords t) (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) (win1_3.stage (cfg1.slots t 3)) (hstage1_3 ((cfg1.slots t 3).cast nbuf1_3))
      (win1_4.stage (cfg1.slots t 4)) (hstage1_4 ((cfg1.slots t 4).cast nbuf1_4)) (win1_5.stage (cfg1.slots t 5)) (hstage1_5 ((cfg1.slots t 5).cast nbuf1_5))
      (Memref.whole cc1_scratch0) (Memref.isWhole_whole _) (Memref.whole cc1_scratch1) (Memref.isWhole_whole _) (Memref.whole cc1_scratch2) (Memref.isWhole_whole _)
      (win1_0.fill (grid1.coords t) d0 ((win1_0.blk t).view.read (Elt F) x)) sl sel ((win1_3.blk t).view.read (Elt F) tgt) tm ((isFirst_iff t).mpr h) Q
    unfold PhiAt
    rw [if_pos h, if_neg (Nat.succ_ne_zero _)]
    unfold scrAny scrSet
    iintro ⟨⟨S0, S1, S2⟩, H0, H1, H2, H3, H4, H5, Hk⟩
    iapply hb
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iintro ⟨H0, H1, H2, H3, H4, H5, S0, S1, S2⟩
    iapply Hk
    isplitl [S0 S1 S2]
    · isplitl [S0]; · iexact S0
      isplitl [S1]; · iexact S1
      iexact S2
    isplitl [H0]; · iexact H0
    isplitl [H1]; · iexact H1
    isplitl [H2]; · iexact H2
    isplitl [H3]; · iexact H3
    isplitl [H4]; · iexact H4
    iexact H5
  · have hb := body_rest c (grid1.coords t) (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) (win1_3.stage (cfg1.slots t 3)) (hstage1_3 ((cfg1.slots t 3).cast nbuf1_3))
      (win1_4.stage (cfg1.slots t 4)) (hstage1_4 ((cfg1.slots t 4).cast nbuf1_4)) (win1_5.stage (cfg1.slots t 5)) (hstage1_5 ((cfg1.slots t 5).cast nbuf1_5))
      (Memref.whole cc1_scratch0) (Memref.isWhole_whole _) (Memref.whole cc1_scratch1) (Memref.isWhole_whole _) (Memref.whole cc1_scratch2) (Memref.isWhole_whole _)
      (win1_0.fill (grid1.coords t) d0 ((win1_0.blk t).view.read (Elt F) x)) sl sel ((win1_3.blk t).view.read (Elt F) tgt) tm (fun hi => h ((isFirst_iff t).mp hi))
      (ctmOf sl sel) (ftlOf sl sel) (fun _ => k1_pay2 sl sel tm) Q
    unfold PhiAt
    rw [if_neg h, if_neg (Nat.succ_ne_zero _)]
    unfold scrSet
    iintro ⟨⟨S0, S1, S2⟩, H0, H1, H2, H3, H4, H5, Hk⟩
    iapply hb
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iintro ⟨H0, H1, H2, H3, H4, H5, S0, S1, S2⟩
    iapply Hk
    isplitl [S0 S1 S2]
    · isplitl [S0]; · iexact S0
      isplitl [S1]; · iexact S1
      iexact S2
    isplitl [H0]; · iexact H0
    isplitl [H1]; · iexact H1
    isplitl [H2]; · iexact H2
    isplitl [H3]; · iexact H3
    isplitl [H4]; · iexact H4
    iexact H5

/-- What the first window's buffer and the result's hold after the body, as the pipeline asks for it. -/
theorem leave_0 (c : Dev nD) (t : Fin cfg1.N) (d0 : Vec F S256x4096 .f32) :
    owns (c : Thread nD τ) (st1_0 t) fullShare (win1_0.fill (grid1.coords t) d0 ((win1_0.blk t).view.read (Elt F) x))
      ⊢ (iprop(∃ d, owns (c : Thread nD τ) (st1_0 t) fullShare (win1_0.fill (grid1.coords t) d (win1_0.cut (grid1.coords t)
          (win1_0.fill (grid1.coords t) (fun _ => Scalar.ofBits .f32 0#32) ((win1_0.blk t).view.read (Elt F) x))))) : sProp 𝕄) := by
  iintro H
  iexists d0
  rw [win1_0.cut_fill]
  iexact H

theorem leave_5 (c : Dev nD) (t : Fin cfg1.N) (d0 : Vec F S256x4096 .f32) :
    owns (c : Thread nD τ) (st1_5 t) fullShare (k1_pay6 (grid1.coords t) (k1_pay2 sl sel tm) (rowsAt (grid1.coords t) (ctmOf sl sel)) (rowsAt (grid1.coords t) (ftlOf sl sel))
        (win1_0.fill (grid1.coords t) d0 ((win1_0.blk t).view.read (Elt F) x)) ((win1_3.blk t).view.read (Elt F) tgt))
      ⊢ (iprop(∃ d, owns (c : Thread nD τ) (st1_5 t) fullShare (win1_5.fill (grid1.coords t) d (win1_5.cut (grid1.coords t)
          (win1_5.fill (grid1.coords t) (fun _ => Scalar.ofBits .f32 0#32) ((win1_5.blk t).view.read (Elt F) (outOf x sl sel tgt tm)))))) : sProp 𝕄) := by
  iintro H
  iexists (k1_pay6 (grid1.coords t) (k1_pay2 sl sel tm) (rowsAt (grid1.coords t) (ctmOf sl sel)) (rowsAt (grid1.coords t) (ftlOf sl sel))
        (win1_0.fill (grid1.coords t) d0 ((win1_0.blk t).view.read (Elt F) x)) ((win1_3.blk t).view.read (Elt F) tgt))
  rw [win1_5.cut_fill, ← cut_pay6 x sl sel tgt tm t d0, win1_5.fill_cut]
  iexact H

theorem body_obligation (c : Dev nD) : Pipeline.BodyObligationLoose (dt c) (defs₀ (F := F)) 𝒱₀ none Set.univ := fun t => by
  rw [bigSep_W1, bigSep_W1]
  simp only
  rw [show (dt c).Φ t.succ = PhiAt sl sel tm c (t.val + 1) from rfl, show (dt c).Φ t.castSucc = PhiAt sl sel tm c t.val from rfl,
    show (dt c).owesAt none t.succ = (dt c).owesAt none t.castSucc from rfl]
  iintro ⟨HΦ, Ho, ⟨%d0, H0⟩, ⟨%d1, H1⟩, ⟨%d2, H2⟩, ⟨%d3, H3⟩, ⟨%d4, H4⟩, ⟨%d5, H5⟩⟩
  rw [before_0 x sl sel tgt tm o0 Rec c t d0, before_1 x sl sel tgt tm o0 Rec c t d1, before_2 x sl sel tgt tm o0 Rec c t d2,
    before_3 x sl sel tgt tm o0 Rec c t d3, before_4 x sl sel tgt tm o0 Rec c t d4, before_5 x sl sel tgt tm o0 Rec c t d5]
  have hb := body_at x sl sel tgt tm c t d0
  have h0 := leave_0 x c t d0
  have h5 := leave_5 x sl sel tgt tm c t d0
  iapply hb
  isplitl [HΦ]; · iexact HΦ
  isplitl [H0]; · iexact H0
  isplitl [H1]; · iexact H1
  isplitl [H2]; · iexact H2
  isplitl [H3]; · iexact H3
  isplitl [H4]; · iexact H4
  isplitl [H5]; · iexists d5; iexact H5
  iintro ⟨HΦ, H0, H1, H2, H3, H4, H5⟩
  isplitl [HΦ]; · iexact HΦ
  isplitl [Ho]; · iexact Ho
  isplitl [H0]; · iapply h0; iexact H0
  isplitl [H1]; · iexact H1
  isplitl [H2]; · iexact H2
  isplitl [H3]; · iexact H3
  isplitl [H4]; · iexact H4
  iapply h5; iexact H5

/-- The result's array after the region. -/
theorem arrAt_out (c : Dev nD) : (dt c).arrAt 5 cfg1.N = outOf x sl sel tgt tm :=
  (dt c).arrAt_eq_of_cover 5 (outOf x sl sel tgt tm) (fun t _ => win1_5.cut_fill (grid1.coords t) _ _) cover5

/-- No prefetched table. -/
abbrev adm : (p : Fin 1) → (pcfgs (F := F) p).Adm := fun p => (cfgs p).toPCfg_adm

/-- What the thread holds of its waits around the region. -/
def owesBefore (c : Dev nD) : sProp 𝕄 := iprop(∃ W, ⌜∀ p ∈ W, p ∈ Rec⌝ ∗ owes (c : Thread nD τ) (0 : CellTallies nD τ sig (HIx 1)) W)
def owesAfter (c : Dev nD) : sProp 𝕄 := iprop(∃ W, ⌜∀ p ∈ W, p ∈ Rec ∨ p.2 = none⌝ ∗ owes (c : Thread nD τ) (0 : CellTallies nD τ sig (HIx 1)) W)

-- the record's fields are stated over the pipeline's configuration through its index: unification unfolds plain definitions
set_option backward.isDefEq.respectTransparency.types false in
/-- The region: entered from its windows' arrays, left with them at the final contents. -/
def reg : Pipeline.RegionSeg (pcfgs (F := F)) adm (dats x sl sel tgt tm o0 Rec) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation x sl sel tgt tm o0 Rec c
  hwaits := Pipeline.hwaits_of_owed_zero _ _ _ _ (K (F := F)).L (K (F := F)).lev 0 fun _ _ => rfl
  pre c := iprop((dt c).arrays ((dt c).arrAt · 0) ∗ owesBefore Rec c)
  post c := iprop((dt c).arrays ((dt c).arrAt · cfg1.N) ∗ owesAfter Rec c)
  X _ := iprop(emp)
  Y _ := iprop(emp)
  Z _ := iprop(emp)
  hentry c := by
    rw [Pipeline.ownSems0_none, Pipeline.prefHeld_of_none _ rfl]
    unfold owesBefore
    iintro ⟨⟨Ha, HO⟩, -, -⟩
    imodintro
    isplitl [Ha]; · iexact Ha
    isplitr; · iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (dats x sl sel tgt tm o0 Rec 0 c).Φ 0 = scrAny c from (show _ = PhiAt sl sel tm c 0 from rfl).trans (if_pos rfl)]
    refine (show _ ⊢ iprop(Pipeline.scopedRest spec1 c) from by iintro ⟨-, -, Hr⟩; iexact Hr).trans ?_
    rw [scopedRest1_eq]
    unfold scrAny
    iintro ⟨⟨%f0, H0⟩, ⟨%f1, H1⟩, ⟨%f2, H2⟩⟩
    isplitl [H0]; · iexists f0; rw [owns_whole]; iexact H0
    isplitl [H1]; · iexists f1; rw [owns_whole]; iexact H1
    iexists f2; rw [owns_whole]; iexact H2
  hout c := by
    rw [Pipeline.ownSems0_none, show (dats x sl sel tgt tm o0 Rec 0 c).Φ (Fin.last cfg1.N) = scrSet sl sel tm c from (show _ = PhiAt sl sel tm c grid1.N from rfl).trans (if_neg (by decide))]
    refine (show _ ⊢ iprop(Pipeline.scopedRest spec1 c) from ?_).trans ?_
    swap
    · iintro H
      isplitr; · iempintro
      isplitr; · iempintro
      iexact H
    rw [scopedRest1_eq]
    unfold scrSet
    rw [owns_whole, owns_whole, owns_whole]
    iintro ⟨H0, H1, H2⟩
    isplitl [H0]; · iexists _; iexact H0
    isplitl [H1]; · iexists _; iexact H1
    iexists _; iexact H2
  hexit c := by
    iintro ⟨Ha, HO, -, -⟩
    imodintro
    isplitl [Ha]; · iexact Ha
    unfold Pipeline.Dat.owesAt Pipeline.owesWithin owesAfter
    icases HO with ⟨%W, %hW, HO⟩; iexists W
    isplitr
    · ipureintro
      exact fun p hp => (hW hp).imp id (by rintro ⟨w, s, h⟩; exact (congrArg Prod.snd h).symm ▸ rfl)
    iexact HO

/-- A whole buffer's elements are all of it. -/
theorem pt_whole (c : Dev nD) (b : Ref sig .tc) (f : Buf (Elt F) ((c : Thread nD τ).loc b)) :
    ((View.loc (c : Thread nD τ) (View.whole b) ↦[(View.whole b).set]{fullShare} f : sProp 𝕄)) = ((c : Thread nD τ).loc b ↦{fullShare} f) :=
  (show _ = ((View.loc (c : Thread nD τ) (View.whole b) ↦[Finset.univ]{fullShare} f : sProp 𝕄)) from by rw [View.set_whole]).trans rfl

set_option backward.isDefEq.respectTransparency.types false in
/-- The region's arrays, one by one. -/
theorem arrays_eq (c : Dev nD) (G : (w : Fin cfg1.W) → Buf (Elt F) ((cfg1.win w).arr.view.loc (c : Thread nD τ))) :
    ((dt c).arrays G : sProp 𝕄)
      = iprop((((c : Thread nD τ).loc main_arg0) ↦{fullShare} G 0) ∗ (((c : Thread nD τ).loc main_v4) ↦{fullShare} G 1)
          ∗ (((c : Thread nD τ).loc main_v10) ↦{fullShare} G 2) ∗ (((c : Thread nD τ).loc main_v11) ↦{fullShare} G 3)
          ∗ (((c : Thread nD τ).loc main_v12) ↦{fullShare} G 4) ∗ (((c : Thread nD τ).loc main_v13) ↦{fullShare} G 5)) := by
  unfold Pipeline.Dat.arrays
  refine (bigSep_W1 _).trans ?_
  simp only [(dt c).share_full (fun _ => rfl)]
  exact congrArg₂ _ (pt_whole c main_arg0 (G 0)) (congrArg₂ _ (pt_whole c main_v4 (G 1)) (congrArg₂ _ (pt_whole c main_v10 (G 2))
    (congrArg₂ _ (pt_whole c main_v11 (G 3)) (congrArg₂ _ (pt_whole c main_v12 (G 4)) (pt_whole c main_v13 (G 5))))))

end Cert.Proof.Tc
-- ==== Proof.LaunchTc.lean ====
/- The TensorCore call inside the launch: its region entered with what the launch's records allow, its ghost state dealt at
   the launch. -/
module

public import proofs.«01_k».proof.Proof.LaunchSc
public import proofs.«01_k».proof.Proof.TcRegion

@[expose] public section

noncomputable section

namespace Cert.Proof.Run

open Cert.KernelIdeal Cert.KernelIdeal.Gen Cert.Proof.Sc Cert.Proof.Tc

open Idealize.ShloMosaic Idealize.ShloMosaic.TcCoe Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- The TensorCore pipeline's ghost state on device `d`, dealt at the launch. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The waits at most at level `b` on device `d`'s TensorCore. -/
def below (d : Dev nD) (b : ℕ) : Set (SemLoc sig × HIx 1) := {p | (K (F := F)).lev (SparseCore.T d, p.1) p.2 ≤ b}

/-- Where the TensorCore's reference `r` lies. -/
abbrev lc (d : Dev nD) (r : Ref sig .tc) : Loc nD τ sig := (SparseCore.T d).loc r

/-- The six arrays of the TensorCore call. -/
def arrs (d : Dev nD) (x : Vec F S1024x100000 .f32) (sl : Vec F S1024x1024 .f32) (sel tgt : Vec F S1024x1 .i32) (tm : Vec F S1x1 .f32)
    (o : Vec F S1024x100000 .f32) : sProp 𝕄 :=
  iprop((lc d main_arg0 ↦{fullShare} (x : Buf (Elt F) (lc d main_arg0))) ∗ (lc d main_v4 ↦{fullShare} (sl : Buf (Elt F) (lc d main_v4))) ∗ (lc d main_v10 ↦{fullShare} (sel : Buf (Elt F) (lc d main_v10))) ∗ (lc d main_v11 ↦{fullShare} (tgt : Buf (Elt F) (lc d main_v11))) ∗ (lc d main_v12 ↦{fullShare} (tm : Buf (Elt F) (lc d main_v12))) ∗ (lc d main_v13 ↦{fullShare} (o : Buf (Elt F) (lc d main_v13))))

variable (d : Dev nD) (b : ℕ) (x : Vec F S1024x100000 .f32) (sl : Vec F S1024x1024 .f32) (sel tgt : Vec F S1024x1 .i32) (tm : Vec F S1x1 .f32)
  (o0 : Vec F S1024x100000 .f32)

theorem arrs_in : (dats x sl sel tgt tm o0 (below (F := F) d b) 0 d).arrays ((dats x sl sel tgt tm o0 (below (F := F) d b) 0 d).arrAt · 0)
    = arrs d x sl sel tgt tm o0 :=
  (arrays_eq x sl sel tgt tm o0 (below (F := F) d b) d _).trans rfl

theorem arrs_out : (dats x sl sel tgt tm o0 (below (F := F) d b) 0 d).arrays ((dats x sl sel tgt tm o0 (below (F := F) d b) 0 d).arrAt · cfg1.N)
    = arrs d x sl sel tgt tm (outOf x sl sel tgt tm) := by
  refine (arrays_eq x sl sel tgt tm o0 (below (F := F) d b) d _).trans ?_
  unfold arrs
  rw [arrAt_out x sl sel tgt tm o0 (below (F := F) d b) d]
  rw [Pipeline.Dat.arrAt_in (dats x sl sel tgt tm o0 (below (F := F) d b) 0 d) (w := 0) rfl, Pipeline.Dat.arrAt_in (dats x sl sel tgt tm o0 (below (F := F) d b) 0 d) (w := 1) rfl,
    Pipeline.Dat.arrAt_in (dats x sl sel tgt tm o0 (below (F := F) d b) 0 d) (w := 2) rfl, Pipeline.Dat.arrAt_in (dats x sl sel tgt tm o0 (below (F := F) d b) 0 d) (w := 3) rfl,
    Pipeline.Dat.arrAt_in (dats x sl sel tgt tm o0 (below (F := F) d b) 0 d) (w := 4) rfl]
  rfl

/-- The program's TensorCore call. -/
abbrev tcCall : Prog (TpuEff nD τ sig (Elt F) (SparseCore.Sig (ΛP (F := F)) 1) .tc) PUnit :=
  Prog.lift (.customCall (SparseCore.inner (Pipeline.entry 0)) ())

theorem owes_before : iprop(∃ W, ⌜(K (F := F)).WBelow (SparseCore.T d) W b⌝ ∗ owes (SparseCore.T d) (0 : CellTallies nD τ sig (HIx 1)) W)
    ⊢ (owesBefore (below (F := F) d b) d : sProp 𝕄) := by
  unfold owesBefore
  iintro ⟨%W, %hW, HO⟩
  iexists W
  isplitr
  · ipureintro; exact hW
  · iexact HO

theorem owes_after : (owesAfter (below (F := F) d b) d : sProp 𝕄)
    ⊢ iprop(∃ W, ⌜(K (F := F)).WBelow (SparseCore.T d) W b⌝ ∗ owes (SparseCore.T d) (0 : CellTallies nD τ sig (HIx 1)) W) := by
  unfold owesAfter
  iintro ⟨%W, %hW, HO⟩
  iexists W
  isplitr
  · ipureintro
    intro p hp
    rcases hW p hp with h | h
    · exact h
    · rw [h]; exact Nat.zero_le _
  · iexact HO

set_option backward.isDefEq.respectTransparency.types false in
/-- The TensorCore call: its output at the closed form, everything else as it was, its own waits recorded. -/
theorem region_wp (Φ : PUnit → sProp 𝕄) :
    iprop((iprop(boundary (SparseCore.T d) ∗ arrs d x sl sel tgt tm (outOf x sl sel tgt tm)
          ∗ ∃ W, ⌜(K (F := F)).WBelow (SparseCore.T d) W b⌝ ∗ owes (SparseCore.T d) (0 : CellTallies nD τ sig (HIx 1)) W) -∗ Φ ⟨⟩)
        ∗ boundary (SparseCore.T d) ∗ arrs d x sl sel tgt tm o0
        ∗ (∃ W, ⌜(K (F := F)).WBelow (SparseCore.T d) W b⌝ ∗ owes (SparseCore.T d) (0 : CellTallies nD τ sig (HIx 1)) W)
        ∗ levAts (K (F := F)).L (K (F := F)).lev ∗ G d)
      ⊢ wp frame (wpE ((K (F := F)).defs (D (F := F))) 𝒱 (SparseCore.T d) none) Set.univ (tcCall (F := F)) Φ := by
  have hr := (Pipeline.RegionSeg.wp (pcfgs (F := F)) adm (dats x sl sel tgt tm o0 (below (F := F) d b)) none cellOf_inj (EP (F := F)) (defs₀ (F := F)) 𝒱₀
    (K (F := F)).L (K (F := F)).lev (reg x sl sel tgt tm o0 (below (F := F) d b)) d none (fun u hu => by cases hu) (fun _ => .ret ⟨⟩) Φ)
  have hl := (K (F := F)).wp_liftProg (D (F := F)) 𝒱 (SparseCore.T d) Set.univ none (.op (.customCall (Pipeline.entry 0) ()) fun _ => .ret ⟨⟩) Φ
  refine BI.Entails.trans ?_ (hr.trans hl)
  show _ ⊢ iprop((iprop(boundary (SparseCore.T d) ∗ ((dats x sl sel tgt tm o0 (below (F := F) d b) 0 d).arrays ((dats x sl sel tgt tm o0 (below (F := F) d b) 0 d).arrAt · cfg1.N)
      ∗ owesAfter (below (F := F) d b) d)) -∗ _) ∗ _ ∗ ((dats x sl sel tgt tm o0 (below (F := F) d b) 0 d).arrays ((dats x sl sel tgt tm o0 (below (F := F) d b) 0 d).arrAt · 0)
      ∗ owesBefore (below (F := F) d b) d) ∗ _ ∗ _ ∗ _)
  rw [arrs_in, arrs_out]
  unfold G
  iintro ⟨Hk, Hb, Ha, HO, Hl, Hg, Ht⟩
  isplitl [Hk]
  · iintro ⟨Hb, Ha, HO⟩
    rw [wp_ret]; imodintro
    iapply Hk
    isplitl [Hb]; · iexact Hb
    isplitl [Ha]; · iexact Ha
    iapply (owes_after d b); iexact HO
  isplitl [Hb]; · iexact Hb
  isplitl [Ha HO]
  · isplitl [Ha]; · iexact Ha
    iapply (owes_before d b); iexact HO
  isplitl [Hl]; · iexact Hl
  isplitl [Hg]; · iexact Hg
  iexact Ht

/-! ## The launch element -/

/-- The handshakes' rounds, the pipeline's rounds, no transfer counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

variable (Tb : Dev nD → S1024x100096.Idx → Elt F .f32) (C : Dev nD → S1024.Idx → BitVec 32) (f0 : Dev nD → S1024x8x128.Idx → Elt F .f32)

set_option backward.isDefEq.respectTransparency.types false in
theorem ghost_deal :
    BI.own ((EP (F := F)) (initOf (Pipeline.cells (Pipeline.pin (pcfgs (F := F)) adm) cellOf_inj) (Pipeline.launchToks (Pipeline.pin (pcfgs (F := F)) adm) cellOf_inj)))
      ⊢ iprop(|==> (bigSep Finset.univ (G (F := F)) : sProp 𝕄)) := by
  have h := Pipeline.fund_ghost (nD := nD) (τ := τ) (Pipeline.pin (pcfgs (F := F)) adm) (EP (F := F)) cellOf_inj
  refine h.trans ?_
  have h1 : ∀ f : Fin 1 → sProp 𝕄, bigSep Finset.univ f = f 0 := fun f => by
    rw [show (Finset.univ : Finset (Fin 1)) = {0} from rfl, bigSep_singleton]
  unfold G
  simp only [bigSep_sep']
  refine BI.bupd_mono ?_
  rw [bigSep_congr fun (c : Dev nD) _ => h1 (fun p => Pipeline.cellsGhost (Pipeline.pin (pcfgs (F := F)) adm) (EP (F := F)) p c),
    bigSep_congr fun (c : Dev nD) _ => h1 (fun p => Pipeline.toksInit (Pipeline.pin (pcfgs (F := F)) adm) (EP (F := F)) p c)]
  exact BI.Entails.refl _

/-- Nothing, once for each member of a set, is nothing. -/
theorem none_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH (F := F)) (initOf (K (F := F)).hsCells (K (F := F)).hsToks)) ∗ (bigSep Finset.univ (G (F := F)))
        ∗ bigSep Finset.univ fun thr : Thread nD τ => bigSep Finset.univ fun q : Fin 1 => (P Tb C f0).x q thr) := by
  unfold u₀
  iintro Hu
  ihave H := (ownU_pair _ _) $$ Hu
  icases H with ⟨HH, HR⟩
  ihave HR' := (own_pair_emb (embR : Emb (UR sig nD τ × Counters) (MT nD τ sig (HIx 1) (Elt F) ℕ UU ℕ)) _ _) $$ HR
  icases HR' with ⟨HP, -⟩
  imod ghost_deal $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => none_each _, none_each]]
  iempintro

end Cert.Proof.Run

end
-- ==== Proof.HostOps.lean ====
/- The host operations before and after the SparseCore call, as two lists, with the values they leave. -/
module

public import proofs.«01_k».proof.Proof.Setup
public import Idealize.ShloMosaic.Lib.Pipeline.Regions

@[expose] public section

noncomputable section

namespace Cert.Proof.Host

open Cert.KernelIdeal Cert.KernelIdeal.Gen
open Idealize.ShloMosaic Idealize.ShloMosaic.TcCoe Idealize.SL.Sem Idealize.ShloMosaic.StableHlo

variable {F : FTy → Type} [FloatOps F]

abbrev opsA : List (HloOp τ sig (Elt F)) :=
  [ nullary main_c (constantI S_ 32 128#32),
    TRef.unary (TRef.of (T := ⟨S_, .i32⟩) main_c) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S1024, .i32⟩) main_call0_v3) (broadcastInDim S1024 ![] bcast_S_S1024),
    TRef.binary (TRef.of (T := ⟨S1024, .i32⟩) main_arg1) (TRef.of (T := ⟨S1024, .i32⟩) main_call0_v3) (TRef.of (T := ⟨S1024, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S1024, .i32⟩) main_call0_v5) (broadcastInDim S1024 ![] bcast_S_S1024),
    TRef.binary (TRef.of (T := ⟨S1024, .i32⟩) main_call0_v4) (TRef.of (T := ⟨S1024, .i32⟩) main_call0_v5) (TRef.of (T := ⟨S1024, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S1024, .i32⟩) main_call0_v7) (broadcastInDim S1024 ![] bcast_S_S1024),
    TRef.binary (TRef.of (T := ⟨S1024, .i32⟩) main_call0_v4) (TRef.of (T := ⟨S1024, .i32⟩) main_call0_v7) (TRef.of (T := ⟨S1024, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S1024, .i1⟩) main_call0_v10) (broadcastInDim S1024 ![] bcast_S_S1024),
    TRef.binary (TRef.of (T := ⟨S1024, .i1⟩) main_call0_v8) (TRef.of (T := ⟨S1024, .i1⟩) main_call0_v10) (TRef.of (T := ⟨S1024, .i1⟩) main_call0_v11) (cmpi .ne),
    TRef.binary (TRef.of (T := ⟨S1024, .i1⟩) main_call0_v11) (TRef.of (T := ⟨S1024, .i1⟩) main_call0_v6) (TRef.of (T := ⟨S1024, .i1⟩) main_call0_v12) andi,
    TRef.unary (TRef.of (T := ⟨S_, .i32⟩) main_call0_v2) (TRef.of (T := ⟨S1024, .i32⟩) main_call0_v13) (broadcastInDim S1024 ![] bcast_S_S1024),
    TRef.binary (TRef.of (T := ⟨S1024, .i32⟩) main_call0_v4) (TRef.of (T := ⟨S1024, .i32⟩) main_call0_v13) (TRef.of (T := ⟨S1024, .i32⟩) main_call0_v14) addi,
    TRef.ternary (TRef.of (T := ⟨S1024, .i1⟩) main_call0_v12) (TRef.of (T := ⟨S1024, .i32⟩) main_call0_v14) (TRef.of (T := ⟨S1024, .i32⟩) main_call0_v4) (TRef.of (T := ⟨S1024, .i32⟩) main_v0) select,
    binary main_arg1 main_v0 main_v1 (subi : (⟨S1024, .i32⟩ : BufTy).Contents (Elt F) → (⟨S1024, .i32⟩ : BufTy).Contents (Elt F) → (⟨S1024, .i32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S1024x100000, .f32⟩) main_arg0) (TRef.of (T := ⟨S_, .f32⟩) main_call1_v0) (TRef.of (T := ⟨S1024x100096, .f32⟩) main_v2)
      (fun x v => pad S1024x100096 ![0, 0] ![0, 96] ![0, 0] x v pads_S1024x100000_S1024x100096_000_0960 h_S_) ]

abbrev opsB : List (HloOp τ sig (Elt F)) :=
  [ reshape main_v3 main_v4 (rfl : (.f32 : EltTy) = .f32) shapeCasts_S1024x8x128_S1024x1024,
    nullary main_v5 (iotaInDim S1024 32 0),
    nullary main_c_1 (constantI S_ 32 8#32),
    TRef.unary (TRef.of (T := ⟨S_, .i32⟩) main_c_1) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S1024, .i32⟩) main_call2_v3) (broadcastInDim S1024 ![] bcast_S_S1024),
    TRef.binary (TRef.of (T := ⟨S1024, .i32⟩) main_v5) (TRef.of (T := ⟨S1024, .i32⟩) main_call2_v3) (TRef.of (T := ⟨S1024, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S1024, .i32⟩) main_call2_v5) (broadcastInDim S1024 ![] bcast_S_S1024),
    TRef.binary (TRef.of (T := ⟨S1024, .i32⟩) main_call2_v4) (TRef.of (T := ⟨S1024, .i32⟩) main_call2_v5) (TRef.of (T := ⟨S1024, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S1024, .i32⟩) main_call2_v7) (broadcastInDim S1024 ![] bcast_S_S1024),
    TRef.binary (TRef.of (T := ⟨S1024, .i32⟩) main_call2_v4) (TRef.of (T := ⟨S1024, .i32⟩) main_call2_v7) (TRef.of (T := ⟨S1024, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S1024, .i1⟩) main_call2_v10) (broadcastInDim S1024 ![] bcast_S_S1024),
    TRef.binary (TRef.of (T := ⟨S1024, .i1⟩) main_call2_v8) (TRef.of (T := ⟨S1024, .i1⟩) main_call2_v10) (TRef.of (T := ⟨S1024, .i1⟩) main_call2_v11) (cmpi .ne),
    TRef.binary (TRef.of (T := ⟨S1024, .i1⟩) main_call2_v11) (TRef.of (T := ⟨S1024, .i1⟩) main_call2_v6) (TRef.of (T := ⟨S1024, .i1⟩) main_call2_v12) andi,
    TRef.unary (TRef.of (T := ⟨S_, .i32⟩) main_call2_v2) (TRef.of (T := ⟨S1024, .i32⟩) main_call2_v13) (broadcastInDim S1024 ![] bcast_S_S1024),
    TRef.binary (TRef.of (T := ⟨S1024, .i32⟩) main_call2_v4) (TRef.of (T := ⟨S1024, .i32⟩) main_call2_v13) (TRef.of (T := ⟨S1024, .i32⟩) main_call2_v14) addi,
    TRef.ternary (TRef.of (T := ⟨S1024, .i1⟩) main_call2_v12) (TRef.of (T := ⟨S1024, .i32⟩) main_call2_v14) (TRef.of (T := ⟨S1024, .i32⟩) main_call2_v4) (TRef.of (T := ⟨S1024, .i32⟩) main_v6) select,
    nullary main_c_2 (constantI S_ 32 128#32),
    unary main_c_2 main_v7 (broadcastInDim S1024 ![] bcast_S_S1024 : (⟨S_, .i32⟩ : BufTy).Contents (Elt F) → (⟨S1024, .i32⟩ : BufTy).Contents (Elt F)),
    binary main_v6 main_v7 main_v8 (muli : (⟨S1024, .i32⟩ : BufTy).Contents (Elt F) → (⟨S1024, .i32⟩ : BufTy).Contents (Elt F) → (⟨S1024, .i32⟩ : BufTy).Contents (Elt F)),
    binary main_v8 main_v0 main_v9 (addi : (⟨S1024, .i32⟩ : BufTy).Contents (Elt F) → (⟨S1024, .i32⟩ : BufTy).Contents (Elt F) → (⟨S1024, .i32⟩ : BufTy).Contents (Elt F)),
    unary main_v9 main_v10 (broadcastInDim S1024x1 ![0] bcast_S1024_S1024x1_0 : (⟨S1024, .i32⟩ : BufTy).Contents (Elt F) → (⟨S1024x1, .i32⟩ : BufTy).Contents (Elt F)),
    unary main_arg1 main_v11 (broadcastInDim S1024x1 ![0] bcast_S1024_S1024x1_0 : (⟨S1024, .i32⟩ : BufTy).Contents (Elt F) → (⟨S1024x1, .i32⟩ : BufTy).Contents (Elt F)),
    reshape main_arg2 main_v12 (rfl : (.f32 : EltTy) = .f32) shapeCasts_S1_S1x1 ]

set_option maxRecDepth 8192 in
set_option maxHeartbeats 4000000 in
/-- @main is the first list, the SparseCore call, the second list and the TensorCore call. -/
theorem main_eq (d : Dev nD) : main (F := F) d
    = (seq opsA >>= fun _ => sc.run d 0 >>= fun _ => seq opsB >>= fun _ =>
        Prog.lift (.customCall (SparseCore.inner (Pipeline.entry 0)) ()) >>= fun _ => pure ⟨⟩) := rfl

/-- The sign-corrected remainder of every entry by `k`, as the two calls of it compute it. -/
def remOf (a : Vec F S1024 .i32) (k : BitVec 32) : Vec F S1024 .i32 :=
  let k' : Vec F S_ .i32 := select (cmpi .eq (constantI S_ 32 k) (constantI S_ 32 0#32)) (constantI S_ 32 1#32) (constantI S_ 32 k)
  let r : Vec F S1024 .i32 := Host.remsi a (broadcastInDim S1024 ![] bcast_S_S1024 k')
  select (andi (cmpi .ne (cmpi .slt r (broadcastInDim S1024 ![] bcast_S_S1024 (constantI S_ 32 0#32)))
        (broadcastInDim S1024 ![] bcast_S_S1024 (cmpi .slt k' (constantI S_ 32 0#32))))
      (cmpi .ne r (broadcastInDim S1024 ![] bcast_S_S1024 (constantI S_ 32 0#32))))
    (addi r (broadcastInDim S1024 ![] bcast_S_S1024 k')) r

/-- The first column of each row's sliver. -/
def colOf (t : Vec F S1024 .i32) : Vec F S1024 .i32 := subi t (remOf t 128#32)

/-- The table with its columns padded to a multiple of the sliver. -/
def padOf (x : Vec F S1024x100000 .f32) : Vec F S1024x100096 .f32 :=
  pad S1024x100096 ![0, 0] ![0, 96] ![0, 0] x (sitofp .f32 (constantI S_ 32 0#32 : Vec F S_ .i32)) pads_S1024x100000_S1024x100096_000_0960 h_S_

/-- Where in its eight slivers each row's target lies. -/
def selOf (t : Vec F S1024 .i32) : Vec F S1024x1 .i32 :=
  broadcastInDim S1024x1 ![0] bcast_S1024_S1024x1_0
    (addi (muli (remOf (F := F) (iotaInDim S1024 32 0) 8#32) (broadcastInDim S1024 ![] bcast_S_S1024 (constantI S_ 32 128#32))) (remOf t 128#32))

/-- The targets as a column. -/
def tgtOf (t : Vec F S1024 .i32) : Vec F S1024x1 .i32 := broadcastInDim S1024x1 ![0] bcast_S1024_S1024x1_0 t

variable (V : Valuation τ sig (Elt F))

abbrev rf (b : Ref sig .tc) : DevRef τ sig := Proc.devRef .tc b

set_option maxHeartbeats 4000000 in
theorem A_v0 : after opsA V (rf main_v0) = remOf (V (rf main_arg1)) 128#32 := by
  simp only [opsA, TRef.nullary, TRef.binary, TRef.ternary, TRef.unary, TRef.toBuf, TRef.ofBuf, cast_eq]; after_results_simp <;> rfl

set_option maxHeartbeats 4000000 in
theorem A_v1 : after opsA V (rf main_v1) = colOf (V (rf main_arg1)) := by
  simp only [opsA, TRef.nullary, TRef.binary, TRef.ternary, TRef.unary, TRef.toBuf, TRef.ofBuf, cast_eq]; after_results_simp <;> rfl

set_option maxHeartbeats 4000000 in
theorem A_v2 : after opsA V (rf main_v2) = padOf (V (rf main_arg0)) := by
  simp only [opsA, TRef.nullary, TRef.binary, TRef.ternary, TRef.unary, TRef.toBuf, TRef.ofBuf, cast_eq]; after_results_simp <;> rfl

theorem A_v3 : after opsA V (rf main_v3) = V (rf main_v3) := by
  simp only [opsA, TRef.nullary, TRef.binary, TRef.ternary, TRef.unary, TRef.toBuf, TRef.ofBuf, cast_eq]; after_results_simp <;> rfl
theorem A_arg0 : after opsA V (rf main_arg0) = V (rf main_arg0) := by
  simp only [opsA, TRef.nullary, TRef.binary, TRef.ternary, TRef.unary, TRef.toBuf, TRef.ofBuf, cast_eq]; after_results_simp <;> rfl
theorem A_arg1 : after opsA V (rf main_arg1) = V (rf main_arg1) := by
  simp only [opsA, TRef.nullary, TRef.binary, TRef.ternary, TRef.unary, TRef.toBuf, TRef.ofBuf, cast_eq]; after_results_simp <;> rfl
theorem A_arg2 : after opsA V (rf main_arg2) = V (rf main_arg2) := by
  simp only [opsA, TRef.nullary, TRef.binary, TRef.ternary, TRef.unary, TRef.toBuf, TRef.ofBuf, cast_eq]; after_results_simp <;> rfl

set_option maxHeartbeats 4000000 in
theorem B_v4 : after opsB V (rf main_v4) = shapeCast S1024x1024 (V (rf main_v3)) shapeCasts_S1024x8x128_S1024x1024 := by
  simp only [opsB, TRef.nullary, TRef.binary, TRef.ternary, TRef.unary, TRef.toBuf, TRef.ofBuf, cast_eq]; after_results_simp <;> rfl

set_option maxHeartbeats 4000000 in
theorem B_v10 : after opsB V (rf main_v10) = broadcastInDim S1024x1 ![0] bcast_S1024_S1024x1_0
    (addi (muli (remOf (F := F) (iotaInDim S1024 32 0) 8#32) (broadcastInDim S1024 ![] bcast_S_S1024 (constantI S_ 32 128#32))) (V (rf main_v0))) := by
  simp only [opsB, TRef.nullary, TRef.binary, TRef.ternary, TRef.unary, TRef.toBuf, TRef.ofBuf, cast_eq]; after_results_simp <;> rfl

theorem B_v11 : after opsB V (rf main_v11) = tgtOf (V (rf main_arg1)) := by
  simp only [opsB, TRef.nullary, TRef.binary, TRef.ternary, TRef.unary, TRef.toBuf, TRef.ofBuf, cast_eq]; after_results_simp <;> rfl
theorem B_v12 : after opsB V (rf main_v12) = shapeCast S1x1 (V (rf main_arg2)) shapeCasts_S1_S1x1 := by
  simp only [opsB, TRef.nullary, TRef.binary, TRef.ternary, TRef.unary, TRef.toBuf, TRef.ofBuf, cast_eq]; after_results_simp <;> rfl
theorem B_v13 : after opsB V (rf main_v13) = V (rf main_v13) := by
  simp only [opsB, TRef.nullary, TRef.binary, TRef.ternary, TRef.unary, TRef.toBuf, TRef.ofBuf, cast_eq]; after_results_simp <;> rfl
theorem B_arg0 : after opsB V (rf main_arg0) = V (rf main_arg0) := by
  simp only [opsB, TRef.nullary, TRef.binary, TRef.ternary, TRef.unary, TRef.toBuf, TRef.ofBuf, cast_eq]; after_results_simp <;> rfl
theorem B_arg1 : after opsB V (rf main_arg1) = V (rf main_arg1) := by
  simp only [opsB, TRef.nullary, TRef.binary, TRef.ternary, TRef.unary, TRef.toBuf, TRef.ofBuf, cast_eq]; after_results_simp <;> rfl
theorem B_arg2 : after opsB V (rf main_arg2) = V (rf main_arg2) := by
  simp only [opsB, TRef.nullary, TRef.binary, TRef.ternary, TRef.unary, TRef.toBuf, TRef.ofBuf, cast_eq]; after_results_simp <;> rfl

theorem opsA_tc : ∀ op ∈ (opsA : List (HloOp τ sig (Elt F))), op.bufs ⊆ StableHlo.tcRefs τ sig := by
  refine List.forall_iff_forall_mem.mp ?_
  exact ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., nullary_bufs_sub .., unary_bufs_sub .., binary_bufs_sub ..⟩

/-- The operations before the call touch unscoped arrays of the TensorCore only. -/
theorem opsA_sub : ∀ op ∈ (opsA : List (HloOp τ sig (Elt F))), op.bufs ⊆ Pipeline.ucRefs τ sig :=
  fun op h => Pipeline.sub_ucRefs op (opsA_tc op h)

theorem opsA_fresh : ∀ op ∈ (opsA : List (HloOp τ sig (Elt F))), op.fresh = ∅ := by
  refine List.forall_iff_forall_mem.mp ?_
  exact ⟨rfl, rfl, rfl, rfl, rfl, rfl, rfl, rfl, rfl, rfl, rfl, rfl, rfl, rfl, rfl, rfl, rfl, rfl, rfl, rfl, rfl, rfl, rfl, rfl, rfl, rfl⟩

theorem opsB_tc : ∀ op ∈ (opsB : List (HloOp τ sig (Elt F))), op.bufs ⊆ StableHlo.tcRefs τ sig := by
  refine List.forall_iff_forall_mem.mp ?_
  exact ⟨reshape_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., binary_bufs_sub .., unary_bufs_sub .., unary_bufs_sub .., reshape_bufs_sub ..⟩

theorem opsB_fresh : ∀ op ∈ (opsB : List (HloOp τ sig (Elt F))), op.fresh = ∅ := by
  refine List.forall_iff_forall_mem.mp ?_
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations after the call use neither the padded table nor the slivers' first columns. -/
theorem opsB_not : ∀ op ∈ (opsB : List (HloOp τ sig (Elt F))), rf main_v1 ∉ op.bufs ∧ rf main_v2 ∉ op.bufs := by
  refine List.forall_iff_forall_mem.mp ?_
  exact ⟨of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl, of_decide_eq_true rfl⟩

theorem opsB_sub : ∀ op ∈ (opsB : List (HloOp τ sig (Elt F))), op.bufs ⊆ Pipeline.ucRefs τ sig \ {rf main_v2, rf main_v1} := by
  intro op h b hb
  refine Finset.mem_sdiff.mpr ⟨Pipeline.sub_ucRefs op (opsB_tc op h) hb, fun hn => ?_⟩
  rcases Finset.mem_insert.mp hn with rfl | hn
  · exact (opsB_not op h).2 hb
  · rw [Finset.mem_singleton.mp hn] at hb
    exact (opsB_not op h).1 hb

end Cert.Proof.Host

end
-- ==== Proof.Launch.lean ====
/- @main's run: the host's first operations, the gather on the two SparseCores, the host's second operations, the TensorCore
   call; with what every array named in the claims holds at the end. -/
module

public import proofs.«01_k».proof.Proof.LaunchTc
public import proofs.«01_k».proof.Proof.HostOps
public import Idealize.ShloMosaic.Lib.SparseCore.Quiescent

@[expose] public section

noncomputable section

namespace Cert.Proof.Run

open Cert.KernelIdeal Cert.KernelIdeal.Gen Cert.Proof.Sc Cert.Proof.Tc Cert.Proof.Host

open Idealize.ShloMosaic Idealize.ShloMosaic.TcCoe Idealize.ShloMosaic.ValueIdx Idealize.ShloMosaic.StableHlo
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The arrays' contents along @main -/

/-- The table, the targets and the running mean at launch. -/
abbrev xIn (d : Dev nD) : Vec F S1024x100000 .f32 := m (lc d main_arg0)
abbrev tIn (d : Dev nD) : Vec F S1024 .i32 := m (lc d main_arg1)
abbrev tmIn (d : Dev nD) : Vec F S1 .f32 := m (lc d main_arg2)

/-- The padded table, and the slivers' first columns. -/
def tabOf (d : Dev nD) : S1024x100096.Idx → Elt F .f32 := padOf (xIn m d)
def firstOf (d : Dev nD) : S1024.Idx → BitVec 32 := colOf (F := F) (tIn m d)

def atLaunch (d : Dev nD) : Valuation τ sig (Elt F) := fun b => m (d, b)
def beforeSc (d : Dev nD) : Valuation τ sig (Elt F) := after opsA (atLaunch m d)
/-- What the gather's output array holds before it. -/
def oldOf (d : Dev nD) : S1024x8x128.Idx → Elt F .f32 := beforeSc m d (rf main_v3)
def afterSc (d : Dev nD) : Valuation τ sig (Elt F) := Function.update (beforeSc m d) (rf main_v3) (gathered (tabOf m d) (firstOf m d))
def beforeTc (d : Dev nD) : Valuation τ sig (Elt F) := after opsB (afterSc m d)

/-- The gathered slivers, eight to a row, as the TensorCore call reads them. -/
def slOf (d : Dev nD) : Vec F S1024x1024 .f32 := shapeCast S1024x1024 (gathered (tabOf m d) (firstOf m d) : Vec F S1024x8x128 .f32) shapeCasts_S1024x8x128_S1024x1024
def tm1Of (d : Dev nD) : Vec F S1x1 .f32 := shapeCast S1x1 (tmIn m d) shapeCasts_S1_S1x1
/-- What the output array holds before the TensorCore call. -/
def outOld (d : Dev nD) : Vec F S1024x100000 .f32 := beforeTc m d (rf main_v13)

/-- The program's result. -/
def result (d : Dev nD) : Vec F S1024x100000 .f32 := outOf (xIn m d) (slOf m d) (selOf (tIn m d)) (tgtOf (tIn m d)) (tm1Of m d)

theorem beforeSc_v2 (d : Dev nD) : beforeSc m d (rf main_v2) = tabOf m d := A_v2 _
theorem beforeSc_v1 (d : Dev nD) : beforeSc m d (rf main_v1) = firstOf m d := A_v1 _

theorem afterSc_v3 (d : Dev nD) : afterSc m d (rf main_v3) = gathered (tabOf m d) (firstOf m d) := Function.update_self _ _ _
theorem afterSc_ne (d : Dev nD) (b : DevRef τ sig) (h : b ≠ rf main_v3) : afterSc m d b = beforeSc m d b := Function.update_of_ne h _ _

theorem afterSc_arg0 (d : Dev nD) : afterSc m d (rf main_arg0) = xIn m d := (afterSc_ne m d _ (by decide)).trans (A_arg0 _)
theorem afterSc_arg1 (d : Dev nD) : afterSc m d (rf main_arg1) = tIn m d := (afterSc_ne m d _ (by decide)).trans (A_arg1 _)
theorem afterSc_arg2 (d : Dev nD) : afterSc m d (rf main_arg2) = tmIn m d := (afterSc_ne m d _ (by decide)).trans (A_arg2 _)
theorem afterSc_v0 (d : Dev nD) : afterSc m d (rf main_v0) = remOf (F := F) (tIn m d) 128#32 := (afterSc_ne m d _ (by decide)).trans (A_v0 _)

theorem beforeTc_arg0 (d : Dev nD) : beforeTc m d (rf main_arg0) = xIn m d := (B_arg0 _).trans (afterSc_arg0 m d)
theorem beforeTc_arg1 (d : Dev nD) : beforeTc m d (rf main_arg1) = tIn m d := (B_arg1 _).trans (afterSc_arg1 m d)
theorem beforeTc_arg2 (d : Dev nD) : beforeTc m d (rf main_arg2) = tmIn m d := (B_arg2 _).trans (afterSc_arg2 m d)
theorem beforeTc_v4 (d : Dev nD) : beforeTc m d (rf main_v4) = slOf m d := (B_v4 _).trans (by rw [afterSc_v3]; rfl)
theorem beforeTc_v10 (d : Dev nD) : beforeTc m d (rf main_v10) = selOf (F := F) (tIn m d) := (B_v10 _).trans (by rw [afterSc_v0]; rfl)
theorem beforeTc_v11 (d : Dev nD) : beforeTc m d (rf main_v11) = tgtOf (F := F) (tIn m d) := (B_v11 _).trans (by rw [afterSc_arg1])
theorem beforeTc_v12 (d : Dev nD) : beforeTc m d (rf main_v12) = tm1Of m d := (B_v12 _).trans (by rw [afterSc_arg2]; rfl)

/-! ## The arrays taken out of, and put back with, the others -/

/-- The gather's three arrays; the TensorCore call's six and the two other arguments. -/
abbrev scRefs : Finset (DevRef τ sig) := {rf main_v2, rf main_v1, rf main_v3}
abbrev tcArrs : Finset (DevRef τ sig) := {rf main_arg0, rf main_v4, rf main_v10, rf main_v11, rf main_v12, rf main_v13, rf main_arg1, rf main_arg2}
/-- What the second operations run over. -/
abbrev restRefs : Finset (DevRef τ sig) := Pipeline.ucRefs τ sig \ {rf main_v2, rf main_v1}

theorem mem_uc (b : Ref sig .tc) (h : (rf b).isScoped = false) : rf b ∈ Pipeline.ucRefs τ sig :=
  Finset.mem_filter.mpr ⟨Finset.mem_map.mpr ⟨b, Finset.mem_univ _, rfl⟩, fun h' => Bool.false_ne_true (h.symm.trans h')⟩

theorem scRefs_sub : scRefs ⊆ Pipeline.ucRefs τ sig := by
  intro b hb
  simp only [scRefs, Finset.mem_insert, Finset.mem_singleton] at hb
  rcases hb with rfl | rfl | rfl <;> exact mem_uc _ rfl

theorem v3_sub : ({rf main_v3} : Finset (DevRef τ sig)) ⊆ restRefs := by
  intro b hb
  rw [Finset.mem_singleton] at hb
  subst hb
  exact Finset.mem_sdiff.mpr ⟨mem_uc _ rfl, by decide⟩

theorem tcArrs_sub : tcArrs ⊆ restRefs := by
  intro b hb
  simp only [tcArrs, Finset.mem_insert, Finset.mem_singleton] at hb
  rcases hb with rfl | rfl | rfl | rfl | rfl | rfl | rfl | rfl <;> exact Finset.mem_sdiff.mpr ⟨mem_uc _ rfl, by decide⟩

theorem rest_eq : restRefs \ {rf main_v3} = Pipeline.ucRefs τ sig \ scRefs := by
  rw [sdiff_sdiff]
  rfl

theorem sep_eq {A A' B B' : sProp 𝕄} (h : A = A') (h' : B = B') : iprop(A ∗ B) = iprop(A' ∗ B') := by rw [h, h']

theorem sc_three (d : Dev nD) (W : Valuation τ sig (Elt F)) : (held (d.tc : Thread nD τ) scRefs W : sProp 𝕄)
    = iprop((tLoc d ↦{fullShare} W (rf main_v2)) ∗ (cLoc d ↦{fullShare} W (rf main_v1)) ∗ (oLoc d ↦{fullShare} W (rf main_v3))) := by
  unfold held
  rw [SparseCore.bigSep_insert' (by decide), SparseCore.bigSep_insert' (by decide), bigSep_singleton]

theorem v3_one (d : Dev nD) (W : Valuation τ sig (Elt F)) : (held (d.tc : Thread nD τ) {rf main_v3} W : sProp 𝕄)
    = iprop(oLoc d ↦{fullShare} W (rf main_v3)) := by
  unfold held
  rw [bigSep_singleton]

theorem tc_eight (d : Dev nD) (W : Valuation τ sig (Elt F)) : (held (d.tc : Thread nD τ) tcArrs W : sProp 𝕄)
    = iprop((lc d main_arg0 ↦{fullShare} W (rf main_arg0)) ∗ (lc d main_v4 ↦{fullShare} W (rf main_v4))
          ∗ (lc d main_v10 ↦{fullShare} W (rf main_v10)) ∗ (lc d main_v11 ↦{fullShare} W (rf main_v11))
          ∗ (lc d main_v12 ↦{fullShare} W (rf main_v12)) ∗ (lc d main_v13 ↦{fullShare} W (rf main_v13))
          ∗ (lc d main_arg1 ↦{fullShare} W (rf main_arg1)) ∗ (lc d main_arg2 ↦{fullShare} W (rf main_arg2))) := by
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_sc (d : Dev nD) : (held (d.tc : Thread nD τ) (Pipeline.ucRefs τ sig) (beforeSc m d) : sProp 𝕄)
    = iprop(((tLoc d ↦{fullShare} tabOf m d) ∗ (cLoc d ↦{fullShare} firstOf m d) ∗ (oLoc d ↦{fullShare} oldOf m d))
        ∗ held (d.tc : Thread nD τ) (Pipeline.ucRefs τ sig \ scRefs) (beforeSc m d)) := by
  rw [held_sub_split _ scRefs_sub, sc_three, beforeSc_v2, beforeSc_v1]
  rfl

theorem held_rest (d : Dev nD) : (held (d.tc : Thread nD τ) restRefs (afterSc m d) : sProp 𝕄)
    = iprop((oLoc d ↦{fullShare} gathered (tabOf m d) (firstOf m d))
        ∗ held (d.tc : Thread nD τ) (Pipeline.ucRefs τ sig \ scRefs) (beforeSc m d)) := by
  rw [held_sub_split _ v3_sub, rest_eq, v3_one, afterSc_v3]
  refine sep_eq rfl (held_congr _ fun b hb => afterSc_ne m d b ?_)
  rintro rfl
  exact (Finset.mem_sdiff.mp hb).2 (by decide)

theorem held_tc (d : Dev nD) : (held (d.tc : Thread nD τ) restRefs (beforeTc m d) : sProp 𝕄)
    = iprop(((lc d main_arg0 ↦{fullShare} (xIn m d : Buf (Elt F) (lc d main_arg0))) ∗ (lc d main_v4 ↦{fullShare} (slOf m d : Buf (Elt F) (lc d main_v4)))
          ∗ (lc d main_v10 ↦{fullShare} (selOf (F := F) (tIn m d) : Buf (Elt F) (lc d main_v10))) ∗ (lc d main_v11 ↦{fullShare} (tgtOf (F := F) (tIn m d) : Buf (Elt F) (lc d main_v11)))
          ∗ (lc d main_v12 ↦{fullShare} (tm1Of m d : Buf (Elt F) (lc d main_v12))) ∗ (lc d main_v13 ↦{fullShare} (outOld m d : Buf (Elt F) (lc d main_v13)))
          ∗ (lc d main_arg1 ↦{fullShare} (tIn m d : Buf (Elt F) (lc d main_arg1))) ∗ (lc d main_arg2 ↦{fullShare} (tmIn m d : Buf (Elt F) (lc d main_arg2))))
        ∗ held (d.tc : Thread nD τ) (restRefs \ tcArrs) (beforeTc m d)) := by
  rw [held_sub_split _ tcArrs_sub, tc_eight, beforeTc_arg0, beforeTc_v4, beforeTc_v10, beforeTc_v11, beforeTc_v12, beforeTc_arg1, beforeTc_arg2]
  rfl

/-! ## @main -/

/-- What @main leaves the claims: the arguments at their launch contents, the result. -/
def FIN (d : Dev nD) : sProp 𝕄 :=
  iprop((lc d main_arg0 ↦{fullShare} m (lc d main_arg0)) ∗ (lc d main_arg1 ↦{fullShare} m (lc d main_arg1))
    ∗ (lc d main_arg2 ↦{fullShare} m (lc d main_arg2)) ∗ (lc d main_v13 ↦{fullShare} (result m d : Buf (Elt F) (lc d main_v13))))

abbrev PP : (K (F := F)).Pay (nD := nD) (Val := Elt F) (Name := ℕ) (U := UU) := P (tabOf m) (firstOf m) (oldOf m)

theorem own_tcSt (d : Dev nD) (n : ℕ) (hn : 1 ≤ n) : ∃ b : ℕ, ∃ R : sProp 𝕄, (K (F := F)).tcSt EH d n
    = iprop((∃ W, ⌜(K (F := F)).WBelow (SparseCore.T d) W b⌝ ∗ owes (SparseCore.T d) (0 : CellTallies nD τ sig (HIx 1)) W) ∗ R) := by
  unfold SparseCore.Cfg.tcSt
  rw [(K (F := F)).Otc_end d hn]
  exact ⟨_, _, rfl⟩

set_option backward.isDefEq.respectTransparency.types false in
/-- From the gather's results on: the second operations and the TensorCore call. -/
theorem tail_wp (d : Dev nD) (Φ : PUnit → sProp 𝕄) :
    iprop(iprop((K (F := F)).tcSt EH d 1 -∗ FIN m d -∗ boundary (SparseCore.T d) -∗ Φ ⟨⟩)
        ∗ levAts (K (F := F)).L (K (F := F)).lev ∗ (K (F := F)).tcSt EH d 1 ∗ G d ∗ boundary (SparseCore.T d)
        ∗ (oLoc d ↦{fullShare} gathered (tabOf m d) (firstOf m d)) ∗ held (d.tc : Thread nD τ) (Pipeline.ucRefs τ sig \ scRefs) (beforeSc m d))
      ⊢ wp frame (wpE ((K (F := F)).defs (D (F := F))) 𝒱 (SparseCore.T d) none) Set.univ
          (seq opsB >>= fun _ => tcCall (F := F) >>= fun _ => pure PUnit.unit) Φ := by
  obtain ⟨b, R, hst⟩ := own_tcSt (F := F) d 1 le_rfl
  rw [hst]
  have hw := wp_seq (defs := (K (F := F)).defs (D (F := F))) 𝒱 none Set.univ d restRefs (fun _ => tcCall (F := F) >>= fun _ => pure PUnit.unit) (K := Φ) opsB opsB_sub opsB_fresh (afterSc m d)
  rw [show after opsB (afterSc m d) = beforeTc m d from rfl] at hw
  have hr := region_wp d b (xIn m d) (slOf m d) (selOf (tIn m d)) (tgtOf (tIn m d)) (tm1Of m d) (outOld m d)
    (fun _ => wp frame (wpE ((K (F := F)).defs (D (F := F))) 𝒱 (SparseCore.T d) none) Set.univ (pure ⟨⟩) Φ)
  iintro ⟨Hk, Hl, ⟨HO, HR⟩, Hg, Hb, Ho, Hrest⟩
  iapply hw $$ [Hb Ho Hrest]
  · isplitl [Hb]; · iexact Hb
    rw [held_rest]
    isplitl [Ho]; · iexact Ho
    iexact Hrest
  iintro ⟨Hb, Hheld⟩
  ihave Hh := (Entails.of_eq (held_tc (F := F) m d)) $$ Hheld
  icases Hh with ⟨⟨H0, H4, H10, H11, H12, H13, H1, H2⟩, -⟩
  rw [wp_bind]
  iapply hr
  isplitl [Hk HR H1 H2]
  · iintro ⟨Hb, Ha, HO⟩
    rw [wp_pure]; imodintro
    unfold arrs
    icases Ha with ⟨H0, -, -, -, -, H13⟩
    iapply Hk $$ [HO HR] [H0 H1 H2 H13] [Hb]
    · isplitl [HO]; · iexact HO
      iexact HR
    · unfold FIN
      isplitl [H0]; · iexact H0
      isplitl [H1]; · iexact H1
      isplitl [H2]; · iexact H2
      iexact H13
    · iexact Hb
  isplitl [Hb]; · iexact Hb
  isplitl [H0 H4 H10 H11 H12 H13]
  · unfold arrs
    isplitl [H0]; · iexact H0
    isplitl [H4]; · iexact H4
    isplitl [H10]; · iexact H10
    isplitl [H11]; · iexact H11
    isplitl [H12]; · iexact H12
    iexact H13
  isplitl [HO]; · iexact HO
  isplitl [Hl]; · iexact Hl
  iexact Hg

/-- @main after its first operations, and the whole of it. -/
def mainTail (d : Dev nD) : Prog (TpuEff nD τ sig (Elt F) (SparseCore.Sig (ΛP (F := F)) 1) .tc) PUnit :=
  (K (F := F)).run d 0 >>= fun _ => seq opsB >>= fun _ => tcCall (F := F) >>= fun _ => pure PUnit.unit

theorem main_split (d : Dev nD) : main (F := F) d = (seq opsA >>= fun _ => mainTail d) := main_eq d

/-- The first operations, before any program. -/
theorem first_wp (d : Dev nD) (k : Prog (TpuEff nD τ sig (Elt F) (SparseCore.Sig (ΛP (F := F)) 1) .tc) PUnit) (Φ : PUnit → sProp 𝕄) :
    iprop(iprop(boundary (SparseCore.T d) ∗ held (d.tc : Thread nD τ) (Pipeline.ucRefs τ sig) (atLaunch m d))
        ∗ iprop((boundary (SparseCore.T d) ∗ held (d.tc : Thread nD τ) (Pipeline.ucRefs τ sig) (beforeSc m d))
          -∗ wp frame (wpE ((K (F := F)).defs (D (F := F))) 𝒱 (SparseCore.T d) none) Set.univ k Φ))
      ⊢ wp frame (wpE ((K (F := F)).defs (D (F := F))) 𝒱 (SparseCore.T d) none) Set.univ (seq opsA >>= fun _ => k) Φ :=
  BIClass.wand_elim (wp_seq (defs := (K (F := F)).defs (D (F := F))) 𝒱 none Set.univ d (Pipeline.ucRefs τ sig)
    (fun _ => k) (K := Φ) opsA opsA_sub opsA_fresh (atLaunch m d))

set_option backward.isDefEq.respectTransparency.types false in
/-- @main from the arrays at launch. -/
theorem main_wp (κ : GSem nD τ sig → ℕ) (d : Dev nD) (Φ : PUnit → sProp 𝕄) :
    iprop(iprop((K (F := F)).tcSt EH d 1 -∗ FIN m d -∗ boundary (SparseCore.T d) -∗ Φ ⟨⟩)
        ∗ (K (F := F)).ctx EH (PP m) κ ∗ (K (F := F)).tcSt EH d 0 ∗ G d ∗ boundary (SparseCore.T d)
        ∗ held (d.tc : Thread nD τ) (Pipeline.ucRefs τ sig) (atLaunch m d))
      ⊢ wp frame (wpE ((K (F := F)).defs (D (F := F))) 𝒱 (SparseCore.T d) none) Set.univ (seq opsA >>= fun _ => mainTail d) Φ := by
  have ht := tail_wp m d Φ
  have hc := (K (F := F)).wp_run (D (F := F)) 𝒱 (EH := EH) (P := PP m) κ d 0
    (Φ := fun _ => wp frame (wpE ((K (F := F)).defs (D (F := F))) 𝒱 (SparseCore.T d) none) Set.univ
          (seq opsB >>= fun _ => tcCall (F := F) >>= fun _ => pure PUnit.unit) Φ)
  have hf := first_wp m d (mainTail d) Φ
  refine BIBase.Entails.trans ?_ hf
  iintro ⟨Hk, #Hctx, Hst, Hg, Hb, Hheld⟩
  isplitl [Hb Hheld]
  · isplitl [Hb]; · iexact Hb
    iexact Hheld
  iintro ⟨Hb, Hheld⟩
  ihave Hh := (Entails.of_eq (held_sc (F := F) m d)) $$ Hheld
  icases Hh with ⟨Hsc, Hrest⟩
  unfold mainTail
  rw [wp_bind]
  iapply hc
  isplitr; · iexact Hctx
  isplitl [Hst]; · iexact Hst
  isplitl [Hsc]
  · iapply (take_all (tabOf m) (firstOf m) (oldOf m) d); iexact Hsc
  iintro ⟨Hst, Hdn⟩
  ihave Ho := (give_all (tabOf m) (firstOf m) (oldOf m) d) $$ Hdn
  ihave Hl := ((K (F := F)).ctx_levAts κ) $$ Hctx
  iapply ht
  isplitl [Hk]; · iexact Hk
  isplitl [Hl]; · iexact Hl
  isplitl [Hst]; · iexact Hst
  isplitl [Hg]; · iexact Hg
  isplitl [Hb]; · iexact Hb
  isplitl [Ho]; · iexact Ho
  iexact Hrest

set_option backward.isDefEq.respectTransparency.types false in
/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (atLaunch m d) from
    Pipeline.unscopedBufs_held d (atLaunch m d), main_split]
  refine BIBase.Entails.trans ?_ (main_wp m κ d _)
  iintro ⟨Hctx, Hst, ⟨Hb, Hheld, Hts, -⟩, Hg⟩
  isplitl [Hts]
  · iintro Hst HF Hb
    isplitl [Hst]; · iexact Hst
    isplitl [HF]; · iexact HF
    isplitl [Hb]; · iexact Hb
    iexact Hts
  isplitl [Hctx]; · iexact Hctx
  isplitl [Hst]; · iexact Hst
  isplitl [Hg]; · iexact Hg
  isplitl [Hb]; · iexact Hb
  iexact Hheld

/-! ## The final memory, and the run -/

def fq (d : Dev nD) (s' : Phys nD τ sig (Elt F)) : Prop :=
  s'.mem.mem (lc d main_arg0) = m (lc d main_arg0) ∧ s'.mem.mem (lc d main_arg1) = m (lc d main_arg1)
    ∧ s'.mem.mem (lc d main_arg2) = m (lc d main_arg2) ∧ s'.mem.mem (lc d main_v13) = result m d

theorem whole_agree (s' : Phys nD τ sig (Elt F)) (ℓ : Loc nD τ sig) (f : Buf (Elt F) ℓ) :
    iprop((ℓ ↦{fullShare} f) ∗ SI s') ⊢ (iprop(⌜s'.mem.mem ℓ = f⌝) : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have e {p q : Prop} {A : sProp 𝕄} (hp : A ⊢ iprop(⌜p⌝)) (hq : A ⊢ iprop(⌜q⌝)) : A ⊢ iprop(⌜p ∧ q⌝) := by
    refine (BIClass.and_intro hp hq).trans ?_
    iintro ⟨%hp, %hq⟩; ipureintro; exact ⟨hp, hq⟩
  unfold FIN fq
  refine e ?_ (e ?_ (e ?_ ?_))
  · iintro ⟨⟨H0, -, -, -⟩, HS⟩
    iapply (whole_agree s' (lc d main_arg0) _)
    isplitl [H0]; · iexact H0
    iexact HS
  · iintro ⟨⟨-, H1, -, -⟩, HS⟩
    iapply (whole_agree s' (lc d main_arg1) _)
    isplitl [H1]; · iexact H1
    iexact HS
  · iintro ⟨⟨-, -, H2, -⟩, HS⟩
    iapply (whole_agree s' (lc d main_arg2) _)
    isplitl [H2]; · iexact H2
    iexact HS
  · iintro ⟨⟨-, -, -, H3⟩, HS⟩
    iapply (whole_agree s' (lc d main_v13) _)
    isplitl [H3]; · iexact H3
    iexact HS

def QC : PUnit × MemSt nD τ sig (Elt F) → Prop := fun r => (∀ c : Dev nD,
  r.2.mem (lc c main_arg0) = m (lc c main_arg0) ∧ r.2.mem (lc c main_arg1) = m (lc c main_arg1)
    ∧ r.2.mem (lc c main_arg2) = m (lc c main_arg2) ∧ r.2.mem (lc c main_v13) = result m c) ∧ r.2.sem = fun _ => 0

/-- The whole program: the arguments unchanged, the result the closed form, every semaphore at zero. -/
theorem run_main (hC : ∀ d, ColsOk (firstOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q _ => match q with | 0 => scalarObl (tabOf m) (oldOf m) hC)
    (fun q hq => match q with | 0 => nomatch hq)
    (fun q hq => match q with | 0 => nomatch hq)
    m ρ main G (FIN m) (u₀ (F := F)) (sep_elim_left.trans (hu₀ (tabOf m) (firstOf m) (oldOf m))) (hmain m ρ) (fq m) (hfin m) (QC m) (fun _ h hz => ⟨h, hz⟩)

end Cert.Proof.Run

end
-- ==== Proof.Range.lean ====
/- What the precondition says of the targets, and what the host's integer arithmetic makes of such targets. -/
module

public import proofs.«01_k».proof.Proof.HostOps
public import proofs.«01_k».proof.Proof.ScRun
public import proofs.«01_k».proof.Pre_in_range
public import proofs.«01_k».proof.Proof.Gen.Pre_in_range
public import Idealize.ShloMosaic.Lib.ReduceAll
public import Idealize.ShloMosaic.Lib.Affine
public import Idealize.ShloMosaic.Lib.WordCmp

@[expose] public section

noncomputable section

namespace Cert.Proof.Range

open Cert.KernelIdeal Cert.KernelIdeal.Gen Cert.Proof.Host
open Idealize.ShloMosaic Idealize.ShloMosaic.ValueIdx

variable {F : FTy → Type} [FloatOps F]

/-- Every target names a column of the table. -/
def InRange (t : Vec F S1024 .i32) : Prop := ∀ i : S1024.Idx, BitVec.toNat (t i) < 100000

instance : Subsingleton S_.Idx := ⟨fun a b => funext fun i => i.elim0⟩

/-- The precondition puts every target in range. -/
theorem inRange_of_pre (x : FVec F S1024x100000 .f32) (t : IVec S1024 32) (tm : FVec F S1 .f32)
    (h : Cert.Pre_in_range.fn x t tm = fun _ => 1#1) : InRange (F := F) t := by
  intro i
  have e := Host.reduce_andi_all _ _ _ _ _ (congrFun h (fun a => a.elim0)) i
  obtain ⟨h0, h1⟩ := IntOp.andi_eq_one.1 e
  have h0' := IntOp.cmpi_sge.1 h0
  have h1' := IntOp.cmpi_slt.1 h1
  change (0#32).toInt ≤ (t i).toInt at h0'
  change (t i).toInt < (100000#32).toInt at h1'
  have a0 : (0#32).toInt = 0 := by decide
  have a1 : (100000#32).toInt = 100000 := by decide
  rw [a0] at h0'; rw [a1] at h1'
  show (t i).toNat < 100000
  rw [BitVec.toInt_eq_toNat_cond] at h0' h1'
  split at h0' <;> omega

/-- One entry of the sign-corrected remainder of a word that is not negative is the remainder. -/
theorem remOf_apply (a : Vec F S1024 .i32) (k : Nat) (hk : 0 < k) (hk' : k < 2 ^ 30) (i : S1024.Idx) (ha : 2 * BitVec.toNat (a i) < 2 ^ 32) :
    BitVec.toNat (remOf a (BitVec.ofNat 32 k) i) = BitVec.toNat (a i) % k := by
  have hkn : (BitVec.ofNat 32 k).toNat = k := by rw [BitVec.toNat_ofNat]; omega
  have hk0 : IntOp.cmpi .eq (BitVec.ofNat 32 k) 0#32 = 0#1 := by
    have : BitVec.ofNat 32 k ≠ 0#32 := fun h => by have := congrArg BitVec.toNat h; rw [hkn] at this; simp at this; omega
    show BitVec.ofBool (BitVec.ofNat 32 k == 0#32) = 0#1
    rw [beq_eq_false_iff_ne.2 this]; rfl
  have hr := IntOp.toNat_remsi .host (x := a i) ha k hk (by omega)
  have hlt : (IntOp.remsi .host (a i) (BitVec.ofNat 32 k)).toNat < 2 ^ 31 := by rw [hr]; have := Nat.mod_lt (BitVec.toNat (a i)) hk; omega
  have hs : ∀ y : BitVec 32, y.toNat < 2 ^ 31 → IntOp.cmpi .slt y 0#32 = 0#1 := fun y hy => by
    rw [WordCmp.cmpi_slt_zero, decide_eq_false (by omega)]; rfl
  have e : remOf a (BitVec.ofNat 32 k) i = IntOp.remsi .host (a i) (BitVec.ofNat 32 k) := by
    show Scalar.select (IntOp.andi (IntOp.cmpi .ne (IntOp.cmpi .slt (IntOp.remsi .host (a i) (Scalar.select (IntOp.cmpi .eq (BitVec.ofNat 32 k) 0#32) 1#32 (BitVec.ofNat 32 k))) 0#32)
        (IntOp.cmpi .slt (Scalar.select (IntOp.cmpi .eq (BitVec.ofNat 32 k) 0#32) 1#32 (BitVec.ofNat 32 k)) 0#32)) _) _
        (IntOp.remsi .host (a i) (Scalar.select (IntOp.cmpi .eq (BitVec.ofNat 32 k) 0#32) 1#32 (BitVec.ofNat 32 k))) = _
    rw [hk0]
    have hsel : Scalar.select 0#1 1#32 (BitVec.ofNat 32 k) = BitVec.ofNat 32 k := rfl
    rw [hsel, hs _ hlt, hs _ (by rw [hkn]; omega)]
    have hne : IntOp.cmpi .ne 0#1 0#1 = 0#1 := by decide
    have hand : ∀ b : BitVec 1, IntOp.andi 0#1 b = 0#1 := by decide
    rw [hne, hand]
    rfl
  rw [e, hr]

/-- The lane of a row's target. -/
theorem lane_toNat (t : Vec F S1024 .i32) (h : InRange t) (i : S1024.Idx) : BitVec.toNat (remOf t 128#32 i) = BitVec.toNat (t i) % 128 :=
  remOf_apply t 128 (by omega) (by omega) i (by have := h i; omega)

/-- The first column of a row's sliver. -/
theorem col_toNat (t : Vec F S1024 .i32) (h : InRange t) (i : S1024.Idx) :
    BitVec.toNat (colOf t i) = BitVec.toNat (t i) - BitVec.toNat (t i) % 128 := by
  have hl := lane_toNat t h i
  have ht := h i
  have hm := Nat.mod_le (BitVec.toNat (t i)) 128
  show BitVec.toNat (BitVec.sub (t i) (remOf t 128#32 i)) = _
  have e : BitVec.toNat (BitVec.sub (t i) (remOf t 128#32 i)) = ((2 ^ 32 - BitVec.toNat (remOf t 128#32 i)) + BitVec.toNat (t i)) % 2 ^ 32 := BitVec.toNat_sub _ _
  rw [e, hl]
  omega

/-- So every sliver lies in the padded table. -/
theorem colsOk (t : Vec F S1024 .i32) (h : InRange t) : Sc.ColsOk (colOf t) := by
  intro r
  have hc := col_toNat t h (ix1 r)
  have ht := h (ix1 r)
  show 128 ∣ BitVec.toNat (colOf t (ix1 r)) ∧ BitVec.toNat (colOf t (ix1 r)) + 128 ≤ 100096
  rw [hc]
  constructor <;> omega

/-- The position of a row's target in its eight slivers. -/
theorem sel_toNat (t : Vec F S1024 .i32) (h : InRange t) (r : Fin 1024) (u : Fin 1) :
    BitVec.toNat (selOf t (ix2 r u)) = r.val % 8 * 128 + BitVec.toNat (t (ix1 r)) % 128 := by
  have hl := lane_toNat t h (ix1 r)
  have hi : BitVec.toNat ((iotaInDim S1024 32 0 : Vec F S1024 .i32) (ix1 r)) = r.val := by
    show (BitVec.ofNat 32 r.val).toNat = r.val
    rw [BitVec.toNat_ofNat]; omega
  have h8 := remOf_apply (F := F) (iotaInDim S1024 32 0) 8 (by omega) (by omega) (ix1 r) (by rw [hi]; omega)
  rw [hi] at h8
  unfold selOf
  rw [broadcastInDim_apply ![0] bcast_S1024_S1024x1_0 _ (ix2 r u) (ix1 r) (fun a => by fin_cases a; rfl)]
  have hm : BitVec.toNat (remOf (F := F) (iotaInDim S1024 32 0) 8#32 (ix1 r)) = r.val % 8 := h8
  show BitVec.toNat (remOf (F := F) (iotaInDim S1024 32 0) 8#32 (ix1 r) * 128#32 + remOf t 128#32 (ix1 r)) = _
  rw [BitVec.toNat_add, BitVec.toNat_mul, hm, hl]
  show (r.val % 8 * 128 % 2 ^ 32 + _) % 2 ^ 32 = _
  have := Nat.mod_lt r.val (show 0 < 8 by omega)
  omega

end Cert.Proof.Range
-- ==== Proof.Agree.lean ====
/- The machine's program and its idealization have the same text: each part of one is the same part of the other. -/
module

public import proofs.«01_k».proof.Kernel
public import proofs.«01_k».proof.KernelIdeal
public import proofs.«01_k».proof.Proof.Gen.Kernel
public import proofs.«01_k».proof.Proof.Gen.KernelIdeal
public import proofs.«01_k».proof.Proof.HostOps

@[expose] public section

set_option maxHeartbeats 1000000

noncomputable section

namespace Cert.Proof.Agree

open Idealize.SL.Sem Idealize.ShloMosaic.StableHlo
open Idealize.ShloMosaic

variable {F : FTy → Type} [FloatOps F]

/-- The SparseCore kernel. -/
theorem gather_eq : Cert.Kernel.cc0_gather_kernel (F := F) = Cert.KernelIdeal.cc0_gather_kernel (F := F) := by exact rfl

/-- The TensorCore kernel. -/
theorem body_eq : Cert.Kernel.cc1__tc_body (F := F) = Cert.KernelIdeal.cc1__tc_body (F := F) := by exact rfl

/-- The table of bodies, label by label. -/
theorem defs₀_eq : Cert.Kernel.defs₀ (F := F) = Cert.KernelIdeal.defs₀ (F := F) := by
  funext q ℓ a
  match q, ℓ, a with
  | .tc, ⟨0, _⟩, _ => exact rfl
  | .tc, ⟨1, _⟩, (t, s) => exact rfl
  | .scScalar c, ⟨0, _⟩, _ => exact rfl
  | .scScalar c, ⟨1, _⟩, _ => exact rfl
  | .scVector c i, _, _ => exact rfl

/-- The table with the launches' own entries. -/
theorem defs_eq : Cert.Kernel.defs (F := F) = Cert.KernelIdeal.defs (F := F) :=
  congrArg (fun D => Cert.KernelIdeal.sc.defs (Pipeline.defs Cert.KernelIdeal.pcfgs D)) defs₀_eq

/-- The kernel's @main as its parts, over its own labels. -/
def parts (d : Dev Cert.Kernel.nD) : Prog (TpuEff Cert.Kernel.nD Cert.Kernel.τ Cert.Kernel.sig (Elt F)
    (SparseCore.Sig (Pipeline.Sig Cert.Kernel.Λ₀ (Fin 1) fun p => (Cert.Kernel.pcfgs (F := F) p).Adm) 1) .tc) PUnit :=
  StableHlo.seq Cert.Proof.Host.opsA >>= fun _ => Cert.Kernel.sc.run d 0 >>= fun _ => StableHlo.seq Cert.Proof.Host.opsB >>= fun _ =>
    Prog.lift (.customCall (SparseCore.inner (Pipeline.entry 0)) ()) >>= fun _ => pure ⟨⟩

set_option maxRecDepth 8192 in
set_option maxHeartbeats 4000000 in
theorem main_parts (d : Dev Cert.Kernel.nD) : Cert.Kernel.main (F := F) d = parts d := by exact rfl

set_option maxRecDepth 8192 in
set_option maxHeartbeats 4000000 in
theorem parts_eq (d : Dev Cert.Kernel.nD) : parts (F := F) d
    = (StableHlo.seq Cert.Proof.Host.opsA >>= fun _ => Cert.KernelIdeal.sc.run d 0 >>= fun _ => StableHlo.seq Cert.Proof.Host.opsB >>= fun _ =>
        Prog.lift (.customCall (SparseCore.inner (Pipeline.entry 0)) ()) >>= fun _ => pure ⟨⟩) := by exact rfl

/-- The two programs' @main are one program. -/
theorem main_eq : Cert.Kernel.main (F := F) = Cert.KernelIdeal.main (F := F) :=
  funext fun d => (main_parts d).trans ((parts_eq d).trans (Cert.Proof.Host.main_eq d).symm)

theorem threads_eq : Cert.Kernel.threads (F := F) = Cert.KernelIdeal.threads (F := F) :=
  congrArg (fun M => Cert.KernelIdeal.sc.threads M) main_eq

/-- The two launches are one launch. -/
theorem launch_eq : θ_run (Cert.Kernel.defs (F := F)) Cert.Kernel.threads = θ_run (Cert.KernelIdeal.defs (F := F)) Cert.KernelIdeal.threads :=
  congrArg₂ (fun D T => θ_run (τ := Cert.KernelIdeal.τ) (sig := Cert.KernelIdeal.sig) D T) defs_eq threads_eq

end Cert.Proof.Agree
-- ==== Proof.Frames.lean ====
/- The three frames: under the precondition each program returns to rest, and its arguments are as they were. -/
module

public import proofs.«01_k».proof.Defs
public import proofs.«01_k».proof.Proof.Launch
public import proofs.«01_k».proof.Proof.Range
public import proofs.«01_k».proof.Proof.Agree
public import proofs.«01_k».proof.Proof.Gen.Kernel
public import proofs.«01_k».proof.Proof.Gen.ReferenceIdeal.Run
public import Idealize.ShloMosaic.Lib.StableHlo.Run

@[expose] public section

noncomputable section

namespace Cert.Proof.Frames

open Idealize.ShloMosaic Idealize.ShloMosaic.TcCoe Idealize.SL.Sem Cert.Proof.Run Cert.Proof.Range

/-- The slivers of an in-range launch lie in the table, at the machine's values. -/
theorem cols_bits (m : (ℓ : Loc Cert.Kernel.nD Cert.Kernel.τ Cert.Kernel.sig) → Buf (Elt Bits) ℓ) (h : Cert.Pre_Kernel m) (d : Dev Cert.Kernel.nD) :
    Sc.ColsOk (firstOf (F := Bits) m d) := colsOk _ (inRange_of_pre (F := Bits) _ _ _ (h d))

/-- The same at the ideal values. -/
theorem cols_ideal (m : (ℓ : Loc Cert.KernelIdeal.nD Cert.KernelIdeal.τ Cert.KernelIdeal.sig) → Buf (Elt Ideal) ℓ) (h : Cert.Pre_KernelIdeal m) (d : Dev Cert.KernelIdeal.nD) :
    Sc.ColsOk (firstOf (F := Ideal) m d) := colsOk _ (inRange_of_pre (F := Ideal) _ _ _ (h d))

set_option maxRecDepth 8192 in
set_option maxHeartbeats 4000000 in
theorem frame_kernel : Cert.quiescent_Kernel := by
  intro m ρ h
  rw [Agree.launch_eq]
  exact (θ_run Cert.KernelIdeal.defs _ _).mono (fun _ q => ⟨fun c => ⟨(q.1 c).1, (q.1 c).2.1, (q.1 c).2.2.1⟩, q.2⟩)
    (run_main (F := Bits) m ρ (cols_bits m h))

set_option maxRecDepth 8192 in
set_option maxHeartbeats 4000000 in
theorem frame_kernelIdeal : Cert.quiescent_KernelIdeal := fun m ρ h =>
  (θ_run Cert.KernelIdeal.defs _ _).mono (fun _ q => ⟨fun c => ⟨(q.1 c).1, (q.1 c).2.1, (q.1 c).2.2.1⟩, q.2⟩) (run_main (F := Ideal) m ρ (cols_ideal m h))

set_option maxRecDepth 8192 in
set_option maxHeartbeats 4000000 in
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Frames
-- ==== Proof.Spec.lean ====
/- The head's arithmetic on one number at the ideal values: the clipped cosine, the margin, the target column, the running mean. -/
module

public import Idealize.ShloMosaic.Lib.IdealHost
public import Idealize.ShloMosaic.Lib.ValueIdx

@[expose] public section

noncomputable section

namespace Cert.Proof.Spec

open Idealize.ShloMosaic

/-- What a pattern denotes. -/
abbrev lit (b : BitVec 32) : EReal := Ideal.ofBits .f32 b

/-- The cosine, clipped. -/
def clip (x : EReal) : EReal := min (lit 0x3F800000#32) (max (lit 0xBF800000#32) x)

/-- The cosine with the margin added to its angle. -/
def marginOf (tl : EReal) : EReal := tl * lit 0x3F60A940#32 - Ideal.sqrt (lit 0x3F800000#32 - tl * tl) * lit 0x3EF57744#32

/-- What a row's target column becomes. -/
def finalOf (tl : EReal) : EReal := Scalar.select (Ideal.cmp .ogt tl (lit 0xBF60A940#32)) (marginOf tl) (tl - lit 0x3E757744#32)

/-- The running mean after a batch whose targets' cosines add up to `s`. -/
def meanOf (s tm : EReal) : EReal := Ideal.div (lit 0x00000000#32 + s) (lit 0x44800000#32) * lit 0x3C23D70A#32 + lit 0x3F7D70A4#32 * tm

/-- Another column's cosine, hardened where it exceeds its row's margin. -/
def hardOf (cl mg tn : EReal) : EReal := Scalar.select (Ideal.cmp .ogt cl mg) (cl * (tn + cl)) cl

theorem lit_one : lit 0x3F800000#32 = 1 := Ideal.ofBits_one_f32

theorem lit_negOne : lit 0xBF800000#32 = ((-1 : ℝ) : EReal) := by
  simp [Ideal.ofBits, Ideal.ieee, -EReal.coe_mul, -EReal.coe_neg]; norm_num

theorem lit_zero : lit 0x00000000#32 = 0 := by simp [Ideal.ofBits, Ideal.ieee]

/-- The clipped cosine is a real number from -1 to 1. -/
theorem clip_real (x : EReal) : ∃ a : ℝ, clip x = a ∧ -1 ≤ a ∧ a ≤ 1 := by
  have h1 : ((1 : ℝ) : EReal) = 1 := EReal.coe_one
  have lo : ((-1 : ℝ) : EReal) ≤ clip x := by
    unfold clip; rw [lit_one, lit_negOne]
    exact le_min (by rw [← h1]; exact EReal.coe_le_coe_iff.2 (by norm_num)) (le_max_left _ _)
  have hi : clip x ≤ ((1 : ℝ) : EReal) := by
    unfold clip; rw [lit_one, h1]; exact min_le_left _ _
  have nt : clip x ≠ ⊤ := fun h => by rw [h] at hi; exact absurd (top_le_iff.1 hi) (EReal.coe_ne_top _)
  have nb : clip x ≠ ⊥ := fun h => by rw [h] at lo; exact absurd (le_bot_iff.1 lo) (EReal.coe_ne_bot _)
  refine ⟨(clip x).toReal, (EReal.coe_toReal nt nb).symm, ?_, ?_⟩
  · rw [← EReal.coe_le_coe_iff, EReal.coe_toReal nt nb]; exact lo
  · rw [← EReal.coe_le_coe_iff, EReal.coe_toReal nt nb]; exact hi

/-- Under the root of the margin nothing is negative, so raising it to zero changes nothing. -/
theorem root_max (x : EReal) : max (lit 0x3F800000#32 - clip x * clip x) (lit 0x00000000#32) = lit 0x3F800000#32 - clip x * clip x := by
  obtain ⟨a, ha, lo, hi⟩ := clip_real x
  rw [ha, lit_one, lit_zero]
  refine max_eq_left ?_
  rw [← EReal.coe_one, ← EReal.coe_mul, ← EReal.coe_sub, ← EReal.coe_zero, EReal.coe_le_coe_iff]
  nlinarith

/-- The kernel divides by 1024 and weighs in one factor. -/
theorem weigh (s : EReal) : s * lit 0x3723D70A#32 = Ideal.div (lit 0x00000000#32 + s) (lit 0x44800000#32) * lit 0x3C23D70A#32 := by
  have n : lit 0x44800000#32 = ((1024 : ℝ) : EReal) := by
    simp [Ideal.ofBits, Ideal.ieee, -EReal.coe_mul]; norm_num
  have w : lit 0x3723D70A#32 = (((1024 : ℝ)⁻¹ : ℝ) : EReal) * lit 0x3C23D70A#32 := by
    simp [Ideal.ofBits, Ideal.ieee, -EReal.coe_mul]
    rw [← EReal.coe_mul]
    norm_num
  rw [lit_zero, zero_add, n]
  unfold Ideal.div
  rw [if_neg (by rw [← EReal.coe_zero]; exact fun h => by have := EReal.coe_injective h; norm_num at this), ← EReal.coe_inv, w, mul_assoc]

/-- The scale may come first. -/
theorem scale_hard (cl tn : EReal) : cl * lit 0x42800000#32 * (tn + cl) = cl * (tn + cl) * lit 0x42800000#32 := by
  rw [mul_assoc, mul_comm (lit 0x42800000#32), mul_assoc]

/-- The scale goes into a choice. -/
theorem select_mul (h : BitVec 1) (a b s : EReal) : Scalar.select h a b * s = Scalar.select h (a * s) (b * s) := by
  unfold Scalar.select; split <;> rfl

end Cert.Proof.Spec
-- ==== Proof.Target.lean ====
/- What the TensorCore kernel selects from a row's eight gathered slivers is the clipped cosine at the row's target. -/
module

public import proofs.«01_k».proof.Proof.Range
public import proofs.«01_k».proof.Proof.TcVal
public import proofs.«01_k».proof.Proof.Spec
public import Idealize.ShloMosaic.Lib.KernelVsHost
public import Idealize.ShloMosaic.Lib.ValueLayoutCasts

@[expose] public section

noncomputable section

namespace Cert.Proof.Target

open Cert.KernelIdeal Cert.KernelIdeal.Gen Cert.Proof.Host Cert.Proof.Spec Cert.Proof.Range
open Idealize.ShloMosaic Idealize.ShloMosaic.TcCoe Idealize.ShloMosaic.ValueIdx

/-- The slivers of a table gathered for the targets, eight to a row. -/
abbrev slivers (x : FVec Ideal S1024x100000 .f32) (t : IVec S1024 32) : FVec Ideal S1024x1024 .f32 :=
  shapeCast S1024x1024 (Sc.gathered (padOf (F := Ideal) x) (colOf (F := Ideal) t)) shapeCasts_S1024x8x128_S1024x1024

/-- A flag as a number is one or zero. -/
theorem flag_one : FloatOps.sitofp (F := Ideal) .f32 (BitVec.setWidth 32 1#1) = 1 := by
  show (((BitVec.toInt (BitVec.setWidth 32 1#1) : ℤ) : ℝ) : EReal) = 1
  rw [show BitVec.toInt (BitVec.setWidth 32 1#1) = 1 by decide]; norm_num
theorem flag_zero : FloatOps.sitofp (F := Ideal) .f32 (BitVec.setWidth 32 0#1) = 0 := by
  show (((BitVec.toInt (BitVec.setWidth 32 0#1) : ℤ) : ℝ) : EReal) = 0
  rw [show BitVec.toInt (BitVec.setWidth 32 0#1) = 0 by decide]; norm_num

/-- A row's index with a lane put back. -/
theorem lift_row (h : S1024x1024.Reduces [1] S1024) (r : Fin 1024) (k : Fin (S1024x1024.size 1)) :
    h.lift (ix1 r) k = ix2 r (⟨k.val, k.isLt⟩ : Fin 1024) := by
  funext c; apply Fin.ext
  fin_cases c <;> rfl

/-- The clipped slivers with every lane but the selected one of a row set to zero, as the kernel computes it. -/
def hot (sl : FVec Ideal S1024x1024 .f32) (sel : IVec S1024x1 32) : FVec Ideal S1024x1024 .f32 :=
  mulf (minimumf (broadcast S1024x1024 (Scalar.ofBits .f32 0x3F800000#32)) (maximumf (broadcast S1024x1024 (Scalar.ofBits .f32 0xBF800000#32))
      (shapeCast S1024x1024 sl shapeCasts_S1024x1024_S1024x1024)))
    (sitofp .f32 (extui 32 (cmpi .eq (iota .tc S1024x1024 32 [1] iota_S1024x1024_d1_w32)
      (broadcastTo S1024x1024 (shapeCast S1024x1 sel shapeCasts_S1024x1_S1024x1) broadcasts_S1024x1_S1024x1024)) natLt_1_32))

theorem pay1_eq (sl : FVec Ideal S1024x1024 .f32) (sel : IVec S1024x1 32) : k1_pay1 (F := Ideal) sl sel
    = shapeCast S1024x1 (multiReduction .add [1] S1024 (hot sl sel) 0x00000000#32 reduces_S1024x1024_S1024 (.inl rfl) rfl) shapeCasts_S1024_S1024x1 := by
  exact rfl

/-- One lane of it. -/
theorem hot_apply (sl : FVec Ideal S1024x1024 .f32) (sel : IVec S1024x1 32) (r k : Fin 1024) :
    hot sl sel (ix2 r k) = clip (sl (ix2 r k))
      * FloatOps.sitofp (F := Ideal) .f32 (BitVec.setWidth 32 (IntOp.cmpi .eq (BitVec.ofNat 32 k.val) (sel (ix2 r 0)))) := by
  have b : broadcastTo S1024x1024 sel broadcasts_S1024x1_S1024x1024 (ix2 r k) = sel (ix2 r 0) :=
    broadcastTo_apply sel _ _ _ fun a => match a with | ⟨0, _⟩ => rfl | ⟨1, _⟩ => rfl
  have o : iota .tc S1024x1024 32 [1] iota_S1024x1024_d1_w32 (ix2 r k) = BitVec.ofNat 32 k.val := by
    show BitVec.ofNat 32 (0 * 1024 + k.val) = _
    rw [Nat.zero_mul, Nat.zero_add]
  unfold hot
  rw [shapeCast_self, shapeCast_self, ← b, ← o]
  rfl

/-- The selected lane stays, every other one is zero. -/
theorem hot_lane (sl : FVec Ideal S1024x1024 .f32) (sel : IVec S1024x1 32) (r n : Fin 1024)
    (hn : BitVec.toNat (sel (ix2 r 0)) = n.val) (k : Fin 1024) : hot sl sel (ix2 r k) = if k = n then clip (sl (ix2 r n)) else 0 := by
  rw [hot_apply]
  by_cases hk : k = n
  · rw [if_pos hk, hk, IntOp.cmpi_eq.2 (BitVec.eq_of_toNat_eq (by rw [hn, BitVec.toNat_ofNat]; omega)), flag_one, mul_one]
  · have hne : IntOp.cmpi .eq (BitVec.ofNat 32 k.val) (sel (ix2 r 0)) = 0#1 := by
      rcases BitVec.eq_zero_or_eq_one (IntOp.cmpi .eq (BitVec.ofNat 32 k.val) (sel (ix2 r 0))) with e | e
      · exact e
      · have := congrArg BitVec.toNat (IntOp.cmpi_eq.1 e)
        rw [hn, BitVec.toNat_ofNat] at this
        exact absurd (Fin.ext (by omega)) hk
    rw [if_neg hk, hne, flag_zero, mul_zero]

/-- The kernel's one-hot sum over a row's lanes keeps the lane the selector names. -/
theorem onehot (sl : FVec Ideal S1024x1024 .f32) (sel : IVec S1024x1 32) (r : Fin 1024) (u : Fin 1) (n : Fin 1024)
    (hn : BitVec.toNat (sel (ix2 r 0)) = n.val) : k1_pay1 (F := Ideal) sl sel (ix2 r u) = clip (sl (ix2 r n)) := by
  rw [pay1_eq]
  refine (shapeCast_a_a1_apply _ shapeCasts_S1024_S1024x1 r u).trans ((Ideal.multiReduction_add_single _ _ reduces_S1024x1024_S1024 _ _ (ix1 r)).trans ?_)
  have term : ∀ k : Fin 1024, hot sl sel (reduces_S1024x1024_S1024.lift (ix1 r) k) = if k = n then clip (sl (ix2 r n)) else 0 := fun k =>
    (congrArg (hot sl sel) (lift_row _ r k)).trans (hot_lane sl sel r n hn k)
  exact (Finset.sum_congr rfl fun k _ => term k).trans
    ((Finset.sum_ite_eq' Finset.univ n fun _ => clip (sl (ix2 r n))).trans (if_pos (Finset.mem_univ n)))

/-- The lane of a row's eight slivers its selector names holds the cosine at its target. -/
theorem sliver_at (x : FVec Ideal S1024x100000 .f32) (t : IVec S1024 32) (h : InRange (F := Ideal) t) (r n : Fin 1024)
    (hn : n.val = r.val % 8 * 128 + BitVec.toNat (t (ix1 r)) % 128) :
    slivers x t (ix2 r n) = x (ix2 r ⟨BitVec.toNat (t (ix1 r)), h (ix1 r)⟩) := by
  have ht := h (ix1 r)
  have hc := col_toNat (F := Ideal) t h (ix1 r)
  have h8 := Nat.mod_lt r.val (show 0 < 8 by omega)
  have hl := Nat.mod_lt (BitVec.toNat (t (ix1 r))) (show 0 < 128 by omega)
  have hm := Nat.mod_le (BitVec.toNat (t (ix1 r))) 128
  unfold slivers
  rw [shapeCast_apply _ _ _ (ix3 r (⟨r.val % 8, h8⟩ : Fin 8) (⟨BitVec.toNat (t (ix1 r)) % 128, hl⟩ : Fin 128)) (by
    rw [Shape.rowMajor_val_two, Shape.rowMajor_val_three]
    show (r.val * 8 + r.val % 8) * 128 + BitVec.toNat (t (ix1 r)) % 128 = r.val * 1024 + n.val
    omega)]
  unfold Sc.gathered padOf
  refine pad_apply_of_inside _ _ _ x _ _ _ _ _ fun a => ?_
  match a with
  | ⟨0, _⟩ => show 8 * (r.val / 8) + r.val % 8 = 0 + r.val * 1; omega
  | ⟨1, _⟩ =>
    show (BitVec.toNat (colOf (F := Ideal) t (ix1 r)) + BitVec.toNat (t (ix1 r)) % 128) % 100096 = 0 + BitVec.toNat (t (ix1 r)) * 1
    rw [hc]
    have ht' : BitVec.toNat (t (ix1 r)) < 100000 := ht
    omega

/-- The kernel's target column. -/
theorem target (x : FVec Ideal S1024x100000 .f32) (t : IVec S1024 32) (h : InRange (F := Ideal) t) (r : Fin 1024) (u : Fin 1) :
    k1_pay1 (F := Ideal) (slivers x t) (selOf (F := Ideal) t) (ix2 r u) = clip (x (ix2 r ⟨BitVec.toNat (t (ix1 r)), h (ix1 r)⟩)) := by
  have hs := sel_toNat (F := Ideal) t h r 0
  have h8 := Nat.mod_lt r.val (show 0 < 8 by omega)
  have hl := Nat.mod_lt (BitVec.toNat (t (ix1 r))) (show 0 < 128 by omega)
  rw [onehot (slivers x t) (selOf (F := Ideal) t) r u ⟨r.val % 8 * 128 + BitVec.toNat (t (ix1 r)) % 128, by omega⟩ hs, sliver_at x t h r _ rfl]

/-- The kernel's running mean, from the sum of its target column. -/
theorem mean (sl : FVec Ideal S1024x1024 .f32) (sel : IVec S1024x1 32) (tm : FVec Ideal S1x1 .f32) :
    k1_pay2 (F := Ideal) sl sel tm = meanOf (∑ i : S1024x1.Idx, k1_pay1 (F := Ideal) sl sel i) (tm (ix2 0 0)) := by
  have e : ∀ j, multiReduction .add [1, 2] S1 (shapeCast S1x1024x1 (k1_pay1 (F := Ideal) sl sel) shapeCasts_S1024x1_S1x1024x1) 0x00000000#32
      reduces_S1x1024x1_S1 (.inl rfl) rfl j = ∑ i : S1024x1.Idx, k1_pay1 (F := Ideal) sl sel i := fun j => by
    refine (Ideal.multiReduction_add_total _ _ _ (fun b => by fin_cases b; rfl) _ _ j).trans ?_
    refine Fintype.sum_equiv ((Shape.rowMajor S1x1024x1).trans ((finCongr (by decide)).trans (Shape.rowMajor S1024x1).symm)) _ _ fun i => ?_
    refine shapeCast_apply _ _ _ _ ?_
    simp
  have f : ∃ j i, k1_pay2 (F := Ideal) sl sel tm
      = multiReduction .add [1, 2] S1 (shapeCast S1x1024x1 (k1_pay1 (F := Ideal) sl sel) shapeCasts_S1024x1_S1x1024x1) 0x00000000#32
          reduces_S1x1024x1_S1 (.inl rfl) rfl j * lit 0x3723D70A#32 + lit 0x3F7D70A4#32 * tm i := ⟨_, _, rfl⟩
  obtain ⟨j, i, f⟩ := f
  have hi : i = ix2 0 0 := funext fun a => match a with
    | ⟨0, _⟩ => Subsingleton.elim (α := Fin 1) _ _
    | ⟨1, _⟩ => Subsingleton.elim (α := Fin 1) _ _
  refine f.trans ((congrArg (fun s : EReal => s * lit 0x3723D70A#32 + lit 0x3F7D70A4#32 * tm i) (e j)).trans ?_)
  rw [hi]
  exact congrArg (· + lit 0x3F7D70A4#32 * tm (ix2 0 0)) (weigh _)

end Cert.Proof.Target
-- ==== Proof.RefForm.lean ====
/- The reference's result in parts: the clipped cosines, the index table, the targets' cosines, the hardening, the scatter. -/
module

public import proofs.«01_k».proof.Proof.Gen.ReferenceIdeal.Run
public import Idealize.ShloMosaic.Lib.ValueIdx

@[expose] public section

noncomputable section

namespace Cert.Proof.Ref

open Cert.ReferenceIdeal Cert.ReferenceIdeal.Gen
open Idealize.ShloMosaic Idealize.ShloMosaic.TcCoe Idealize.ShloMosaic.ValueIdx

variable {F : FTy → Type} [FloatOps F]

/-- The clipped cosines. -/
def clipped (x : Vec F S1024x100000 .f32) : Vec F S1024x100000 .f32 :=
  minimumf (broadcastInDim S1024x100000 ![] bcast_S_S1024x100000 (id (constant S_ .f32 0x3F800000#32)))
    (maximumf (broadcastInDim S1024x100000 ![] bcast_S_S1024x100000 (id (constant S_ .f32 0xBF800000#32))) x)

/-- A word per row, with jnp's wrap of a negative one. -/
def wrapped (a : Vec F S1024 .i32) (n : BitVec 32) : Vec F S1024 .i32 :=
  select (cmpi .slt a (broadcastInDim S1024 ![] bcast_S_S1024 (constantI S_ 32 0#32)))
    (addi a (broadcastInDim S1024 ![] bcast_S_S1024 (constantI S_ 32 n))) a

/-- The rows' (row, target) pairs. -/
def pairs (t : Vec F S1024 .i32) : Vec F S1024x2 .i32 :=
  concatenate S1024x2 1 [⟨S1024x1, broadcastInDim S1024x1 ![0] bcast_S1024_S1024x1_0 (wrapped (F := F) (iotaInDim S1024 32 0) 1024#32)⟩,
    ⟨S1024x1, broadcastInDim S1024x1 ![0] bcast_S1024_S1024x1_0 (wrapped t 100000#32)⟩] concatenates_S1024x1_S1024x1_S1024x2_d1

/-- The targets' cosines. -/
def picked (x : Vec F S1024x100000 .f32) (t : Vec F S1024 .i32) : Vec F S1024x1 .f32 :=
  broadcastInDim S1024x1 ![0] bcast_S1024_S1024x1_0
    (Host.gather gather_S1024x100000_S1024x2_S1024_n_01_n_n_01_1_11 (clipped x) (pairs t))

/-- A word for every row. -/
def rowConst (b : BitVec 32) : Vec F S1024x1 .f32 := broadcastInDim S1024x1 ![] bcast_S_S1024x1 (constant S_ .f32 b)

/-- The cosine with the margin added to its angle. -/
def margin (tl : Vec F S1024x1 .f32) : Vec F S1024x1 .f32 :=
  subf (mulf tl (rowConst 0x3F60A940#32)) (mulf (Host.sqrt (subf (rowConst 0x3F800000#32) (mulf tl tl))) (rowConst 0x3EF57744#32))

/-- What a row's target column becomes. -/
def final (tl : Vec F S1024x1 .f32) : Vec F S1024x1 .f32 :=
  select (cmpf .ogt tl (rowConst 0xBF60A940#32)) (margin tl) (subf tl (rowConst 0x3E757744#32))

/-- The new running mean. -/
def newMean (tl : Vec F S1024x1 .f32) (tm : Vec F S1 .f32) : Vec F S1 .f32 :=
  addf (broadcastInDim S1 ![] bcast_S_S1 (mulf (Host.divf (Host.reduceAdd tl (constant S_ .f32 0x00000000#32) reducesTo_S1024x1_S_d0_1 h_S_)
      (constant S_ .f32 0x44800000#32)) (constant S_ .f32 0x3C23D70A#32)))
    (mulf (broadcastInDim S1 ![] bcast_S_S1 (constant S_ .f32 0x3F7D70A4#32)) tm)

/-- The cosines, hardened where they exceed their row's margin. -/
def hardened (cl : Vec F S1024x100000 .f32) (mg : Vec F S1024x1 .f32) (tn : Vec F S1 .f32) : Vec F S1024x100000 .f32 :=
  select (cmpf .ogt cl (broadcastInDim S1024x100000 ![0, 1] bcast_S1024x1_S1024x100000_0_1 mg))
    (mulf cl (addf (broadcastInDim S1024x100000 ![0, 1] bcast_S1x1_S1024x100000_0_1 (broadcastInDim S1x1 ![1] bcast_S1_S1x1_1 tn)) cl)) cl

/-- The reference's result. -/
def resultOf (x : Vec F S1024x100000 .f32) (t : Vec F S1024 .i32) (tm : Vec F S1 .f32) : Vec F S1024x100000 .f32 :=
  mulf (Host.scatter scatter_S1024x100000_S1024x2_S1024_n_01_01_1 (fun _ b => b)
      (hardened (clipped x) (margin (picked x t)) (newMean (picked x t) tm)) (pairs t)
      (shapeCast S1024 (final (picked x t)) shapeCasts_S1024x1_S1024))
    (broadcastInDim S1024x100000 ![] bcast_S_S1024x100000 (constant S_ .f32 0x42800000#32))

set_option maxRecDepth 8192 in
set_option maxHeartbeats 4000000 in
theorem res_eq (m : (ℓ : Loc nD τ sig) → Buf (Elt F) ℓ) (c : Dev nD) :
    Cert.ReferenceIdeal.Value.res_main_v61 m c
      = resultOf (F := F) (m ((c.tc : Thread nD τ).loc main_arg0)) (m ((c.tc : Thread nD τ).loc main_arg1)) (m ((c.tc : Thread nD τ).loc main_arg2)) := by
  exact rfl

end Cert.Proof.Ref
-- ==== Proof.RowPair.lean ====
/- One value per (row, column) pair out of a matrix, and one value per pair into it: the host's gather and scatter over a table
   of index pairs. -/
module

public import Idealize.ShloMosaic.Lib.Routing.OpsPair
public import Idealize.ShloMosaic.Lib.Routing.OpsSet

@[expose] public section

namespace Cert.Proof.RowPair

open Idealize.ShloMosaic Idealize.ShloMosaic.ValueIdx Idealize.ShloMosaic.Routing

variable {R C N w : Nat}

/-- The place of pair `p`'s word `q` among the start indices of a gather whose result has one axis. -/
theorem gather_siIdx (d : GatherDims (shape2 R C) (shape2 N 2) (shape1 N)) (hmap : d.startIndexMap = [0, 1]) (hvec : d.indexVectorDim = 1)
    (p : Fin N) (q : Fin 2) (hq : d.startIndexMap.idxOf q < d.startIndexMap.length) :
    d.siIdx (ix1 p) ⟨d.startIndexMap.idxOf q, hq⟩ = ix2 p q := by
  funext b
  apply Fin.ext
  match b with
  | ⟨0, _⟩ =>
    unfold GatherDims.siIdx
    rw [dif_neg (by rw [hvec]; exact Nat.zero_ne_one)]
    unfold GatherDims.siCoord
    have one : ∀ X : Fin 1, ((ix1 p : (shape1 N).Idx) X).val = p.val := fun X => by rw [Subsingleton.elim X 0]
    exact one _
  | ⟨1, _⟩ =>
    unfold GatherDims.siIdx
    rw [dif_pos (by rw [hvec])]
    show List.idxOf q d.startIndexMap = q.val
    rw [hmap]
    fin_cases q <;> rfl

/-- A gather of single elements reads, for pair `p`, the element its two words name when they name one. -/
theorem gather_pair {α : Type} (d : GatherDims (shape2 R C) (shape2 N 2) (shape1 N)) (hcoll : d.collapsedSliceDims = [0, 1])
    (hbat : d.operandBatchingDims = []) (hmap : d.startIndexMap = [0, 1]) (hvec : d.indexVectorDim = 1)
    (x : (shape2 R C).Idx → α) (idx : IVec (shape2 N 2) w) (p : Fin N) (r : Fin R) (c : Fin C)
    (h0 : (idx (ix2 p 0)).toInt = r.val) (h1 : (idx (ix2 p 1)).toInt = c.val) :
    Host.gather d x idx (ix1 p) = x (ix2 r c) := by
  have mem : ∀ q : Fin 2, q ∈ ([0, 1] : List (Fin 2)) := fun q => by fin_cases q <;> simp
  have at_ : ∀ q : Fin 2, (d.operandIdx (ix1 p) idx q).val = min (idx (ix2 p q)).toInt.toNat ((shape2 R C).size q - 1) := fun q => by
    have hb : q ∉ d.operandBatchingDims := by rw [hbat]; exact List.not_mem_nil
    have hk : q ∉ d.sKept := by rw [GatherDims.mem_sKept, hcoll]; exact fun h => h.1 (mem q)
    have hm : q ∈ d.startIndexMap := by rw [hmap]; exact mem q
    have hs : d.sliceSizes q = 1 := d.slice_collapsed q (by rw [hcoll]; exact mem q)
    show d.start (ix1 p) idx q + d.batchCoord (ix1 p) q + d.offCoord (ix1 p) q = _
    rw [d.batchCoord_eq_zero _ _ hb, d.offCoord_eq_zero _ _ hk]
    show d.start (ix1 p) idx q = _
    unfold GatherDims.start
    rw [dif_pos hm, gather_siIdx d hmap hvec, hs]
  refine congrArg x (funext fun q => Fin.ext ?_)
  rw [at_ q]
  match q with
  | ⟨0, _⟩ =>
    show min (idx (ix2 p 0)).toInt.toNat (R - 1) = r.val
    have := r.isLt
    rw [h0]; omega
  | ⟨1, _⟩ =>
    show min (idx (ix2 p 1)).toInt.toNat (C - 1) = c.val
    have := c.isLt
    rw [h1]; omega

/-- Update `p` of a scatter of single elements lands at `(r, c)` exactly when its two words are `r` and `c`. -/
theorem scatter_pair_lands (d : ScatterDims (shape2 R C) (shape2 N 2) (shape1 N)) (hins : d.insertedWindowDims = [0, 1])
    (hmap : d.scatterDimsToOperandDims = [0, 1]) (hvec : d.indexVectorDim = 1) (idx : IVec (shape2 N 2) w)
    (p : Fin N) (r : Fin R) (c : Fin C) :
    d.resultIdx? (ix1 p) idx = some (ix2 r c) ↔ (idx (ix2 p 0)).toInt = r.val ∧ (idx (ix2 p 1)).toInt = c.val := by
  have mem : ∀ q : Fin 2, q ∈ ([0, 1] : List (Fin 2)) := fun q => by fin_cases q <;> simp
  have win : ∀ q : Fin 2, d.window (ix1 p) q = 0 := fun q => by
    unfold ScatterDims.window
    have out : q ∉ d.sKept := fun h => absurd (show q ∈ d.insertedWindowDims by rw [hins]; exact mem q) (of_decide_eq_true (List.mem_filter.1 h).2)
    exact dif_neg out
  have start : ∀ q : Fin 2, d.start (ix1 p) idx q = (idx (ix2 p q)).toInt := fun q => by
    have hm : q ∈ d.scatterDimsToOperandDims := by rw [hmap]; exact mem q
    unfold ScatterDims.start
    rw [dif_pos hm]
    refine congrArg (fun i => (idx i).toInt) (funext fun b => Fin.ext ?_)
    match b with
    | ⟨0, _⟩ =>
      unfold ScatterDims.siIdx
      rw [dif_neg (by rw [hvec]; exact Nat.zero_ne_one)]
      unfold ScatterDims.siCoord
      have one : ∀ X : Fin 1, ((ix1 p : (shape1 N).Idx) X).val = p.val := fun X => by rw [Subsingleton.elim X 0]
      exact one _
    | ⟨1, _⟩ =>
      unfold ScatterDims.siIdx
      rw [dif_pos (by rw [hvec])]
      show List.idxOf q d.scatterDimsToOperandDims = q.val
      rw [hmap]
      fin_cases q <;> rfl
  rw [resultIdx?_ix2, start, start, win, win]
  simp

/-- A scatter that sets one element of every row: at a row's own column the row's update, elsewhere the operand. -/
theorem scatter_rows {α : Type} (d : ScatterDims (shape2 R C) (shape2 R 2) (shape1 R)) (hins : d.insertedWindowDims = [0, 1])
    (hmap : d.scatterDimsToOperandDims = [0, 1]) (hvec : d.indexVectorDim = 1)
    (x : (shape2 R C).Idx → α) (idx : IVec (shape2 R 2) w) (upd : (shape1 R).Idx → α) (col : Fin R → Fin C)
    (h0 : ∀ p, (idx (ix2 p 0)).toInt = p.val) (h1 : ∀ p, (idx (ix2 p 1)).toInt = (col p).val) (r : Fin R) (c : Fin C) :
    Host.scatter d (fun _ b => b) x idx upd (ix2 r c) = if c = col r then upd (ix1 r) else x (ix2 r c) := by
  have lands : ∀ p : Fin R, d.resultIdx? (ix1 p) idx = some (ix2 r c) ↔ p = r ∧ c = col r := fun p => by
    rw [scatter_pair_lands d hins hmap hvec, h0, h1]
    constructor
    · rintro ⟨a, b⟩
      obtain rfl : p = r := Fin.ext (by exact_mod_cast a)
      exact ⟨rfl, Fin.ext (by exact_mod_cast b.symm)⟩
    · rintro ⟨rfl, rfl⟩; exact ⟨rfl, rfl⟩
  have own : ∀ k : (shape1 R).Idx, k = ix1 (k 0) := fun k => funext fun a => by rw [Subsingleton.elim a 0]; rfl
  split
  · rename_i hc
    refine scatter_set_hit d x idx upd _ _ (fun k hk => ?_) (ix1 r) ((lands r).2 ⟨rfl, hc⟩)
    rw [own k] at hk ⊢
    exact congrArg (fun p => upd (ix1 p)) ((lands (k 0)).1 hk).1
  · rename_i hc
    refine scatter_set_miss d x idx upd _ fun k hk => hc ?_
    rw [own k] at hk
    exact ((lands (k 0)).1 hk).2

end Cert.Proof.RowPair
-- ==== Proof.RefAt.lean ====
/- The reference's result at one element. -/
module

public import proofs.«01_k».proof.Proof.RefForm
public import proofs.«01_k».proof.Proof.RowPair
public import proofs.«01_k».proof.Proof.Spec
public import Idealize.ShloMosaic.Lib.StableHlo.Predicate

@[expose] public section

noncomputable section

namespace Cert.Proof.Ref

open Cert.ReferenceIdeal Cert.ReferenceIdeal.Gen Cert.Proof.Spec
open Idealize.ShloMosaic Idealize.ShloMosaic.TcCoe Idealize.ShloMosaic.ValueIdx

/-- The column a row's target names. -/
def colAt (t : IVec S1024 32) (h : ∀ i : S1024.Idx, BitVec.toNat (t i) < 100000) (r : Fin 1024) : Fin 100000 := ⟨(t (ix1 r)).toNat, h (ix1 r)⟩

section
variable {F : FTy → Type} [FloatOps F]

/-- A word that is not negative is not wrapped. -/
theorem wrapped_apply (a : Vec F S1024 .i32) (n : BitVec 32) (i : S1024.Idx) (h : BitVec.toNat (a i) < 2 ^ 31) : wrapped a n i = a i :=
  Routing.wrap_of_lt (w := 32) (a i) (a i + n) h

/-- A pair's row is its position. -/
theorem pairs_row (t : Vec F S1024 .i32) (p : Fin 1024) : BitVec.toInt (pairs t (ix2 p 0)) = p.val := by
  have e : pairs t (ix2 p 0) = (iotaInDim S1024 32 0 : Vec F S1024 .i32) (ix1 p) := by
    unfold pairs
    rw [concatenate_pair_apply_left (s₁ := S1024x1) (s₂ := S1024x1) (t := S1024x2) 1 _ _ _ (ix2 p 0) rfl (ix2 p 0)
      (fun b => by match b with | ⟨0, _⟩ => rfl | ⟨1, _⟩ => rfl)]
    rw [broadcastInDim_apply ![0] bcast_S1024_S1024x1_0 _ (ix2 p (0 : Fin 1)) (ix1 p) (fun a => by fin_cases a; rfl)]
    exact wrapped_apply _ _ _ (by
      show (BitVec.ofNat 32 p.val).toNat < 2 ^ 31
      rw [BitVec.toNat_ofNat]; omega)
  rw [e]
  exact StableHlo.Predicate.toInt_ofNat_small p.val (by omega)

/-- A pair's column is its row's target. -/
theorem pairs_col (t : Vec F S1024 .i32) (h : ∀ i : S1024.Idx, BitVec.toNat (t i) < 100000) (p : Fin 1024) :
    BitVec.toInt (pairs t (ix2 p 1)) = (colAt t h p).val := by
  have ht := h (ix1 p)
  have e : pairs t (ix2 p 1) = t (ix1 p) := by
    unfold pairs
    rw [concatenate_pair_apply_right (s₁ := S1024x1) (s₂ := S1024x1) (t := S1024x2) 1 _ _ _ (ix2 p 1) rfl rfl (ix2 p 0)
      (fun b hb => by match b with | ⟨0, _⟩ => rfl | ⟨1, _⟩ => exact absurd rfl hb) rfl]
    rw [broadcastInDim_apply ![0] bcast_S1024_S1024x1_0 _ (ix2 p (0 : Fin 1)) (ix1 p) (fun a => by fin_cases a; rfl)]
    exact wrapped_apply _ _ _ (by omega)
  rw [e]
  show BitVec.toInt (t (ix1 p)) = ((BitVec.toNat (t (ix1 p)) : Nat) : Int)
  rw [BitVec.toInt_eq_toNat_cond, if_pos (by omega)]

end

variable (x : FVec Ideal S1024x100000 .f32) (t : IVec S1024 32) (tm : FVec Ideal S1 .f32) (h : ∀ i : S1024.Idx, BitVec.toNat (t i) < 100000)

/-- The cosine at a row's target. -/
abbrev targetCos (r : Fin 1024) : EReal := clip (x (ix2 r (colAt t h r)))

theorem picked_apply (r : Fin 1024) (u : Fin 1) : picked (F := Ideal) x t (ix2 r u) = targetCos x t h r := by
  unfold picked
  rw [broadcastInDim_apply ![0] bcast_S1024_S1024x1_0 _ (ix2 r u) (ix1 r) (fun a => by fin_cases a; rfl)]
  exact RowPair.gather_pair gather_S1024x100000_S1024x2_S1024_n_01_n_n_01_1_11 rfl rfl rfl rfl (clipped (F := Ideal) x) (pairs (F := Ideal) t) r r (colAt t h r)
    (pairs_row (F := Ideal) t r) (pairs_col (F := Ideal) t h r)

/-- The targets' cosines' margins and final values, row by row. -/
theorem margin_apply (tl : FVec Ideal S1024x1 .f32) (i : S1024x1.Idx) : margin (F := Ideal) tl i = marginOf (tl i) := rfl
theorem final_apply (tl : FVec Ideal S1024x1 .f32) (i : S1024x1.Idx) : final (F := Ideal) tl i = finalOf (tl i) := rfl

/-- The new running mean. -/
theorem newMean_apply (tl : FVec Ideal S1024x1 .f32) : newMean (F := Ideal) tl tm (ix1 0) = meanOf (∑ i : S1024x1.Idx, tl i) (tm (ix1 0)) := by
  have e : Host.reduceAdd (F := Ideal) tl (constant S_ .f32 0x00000000#32) reducesTo_S1024x1_S_d0_1 h_S_
      = fun _ => lit 0x00000000#32 + ∑ i : S1024x1.Idx, tl i :=
    funext fun j => Ideal.hostReduceAdd_total reducesTo_S1024x1_S_d0_1 (fun b => b.elim0) tl _ j
  unfold newMean
  rw [e]
  rfl

/-- The result's element. -/
theorem resultOf_apply (r : Fin 1024) (c : Fin 100000) :
    resultOf (F := Ideal) x t tm (ix2 r c)
      = (if c = colAt t h r then finalOf (targetCos x t h r)
          else hardOf (clip (x (ix2 r c))) (marginOf (targetCos x t h r)) (meanOf (∑ i : S1024x1.Idx, picked (F := Ideal) x t i) (tm (ix1 0))))
        * lit 0x42800000#32 := by
  have e := RowPair.scatter_rows scatter_S1024x100000_S1024x2_S1024_n_01_01_1 rfl rfl rfl
      (hardened (F := Ideal) (clipped (F := Ideal) x) (margin (F := Ideal) (picked (F := Ideal) x t)) (newMean (F := Ideal) (picked (F := Ideal) x t) tm)) (pairs (F := Ideal) t)
      (shapeCast S1024 (final (F := Ideal) (picked (F := Ideal) x t)) shapeCasts_S1024x1_S1024) (colAt t h) (pairs_row (F := Ideal) t) (pairs_col (F := Ideal) t h) r c
  have f : shapeCast S1024 (final (F := Ideal) (picked (F := Ideal) x t)) shapeCasts_S1024x1_S1024 (ix1 r) = finalOf (targetCos x t h r) := by
    rw [shapeCast_apply _ _ _ (ix2 r 0) (by rw [Shape.rowMajor_val_two, Shape.rowMajor_val_one]; show r.val * 1 + 0 = r.val; omega), final_apply, picked_apply x t h]
  have g : hardened (F := Ideal) (clipped (F := Ideal) x) (margin (F := Ideal) (picked (F := Ideal) x t)) (newMean (F := Ideal) (picked (F := Ideal) x t) tm) (ix2 r c)
      = hardOf (clip (x (ix2 r c))) (marginOf (targetCos x t h r)) (meanOf (∑ i : S1024x1.Idx, picked (F := Ideal) x t i) (tm (ix1 0))) := by
    have a : broadcastInDim S1024x100000 ![0, 1] bcast_S1024x1_S1024x100000_0_1 (margin (F := Ideal) (picked (F := Ideal) x t)) (ix2 r c)
        = marginOf (targetCos x t h r) := by
      rw [broadcastInDim_apply ![0, 1] bcast_S1024x1_S1024x100000_0_1 _ (ix2 r c) (ix2 r 0) (fun a => by fin_cases a <;> rfl), margin_apply, picked_apply x t h]
    have b : broadcastInDim S1024x100000 ![0, 1] bcast_S1x1_S1024x100000_0_1
        (broadcastInDim S1x1 ![1] bcast_S1_S1x1_1 (newMean (F := Ideal) (picked (F := Ideal) x t) tm)) (ix2 r c)
        = meanOf (∑ i : S1024x1.Idx, picked (F := Ideal) x t i) (tm (ix1 0)) := by
      rw [broadcastInDim_apply ![0, 1] bcast_S1x1_S1024x100000_0_1 _ (ix2 r c) (ix2 0 0) (fun a => by fin_cases a <;> rfl),
        broadcastInDim_apply ![1] bcast_S1_S1x1_1 _ (ix2 0 0) (ix1 0) (fun a => by fin_cases a; rfl), newMean_apply]
    rw [← a, ← b]
    rfl
  rw [f, g] at e
  rw [← e]
  rfl

end Cert.Proof.Ref
-- ==== Proof.Value.lean ====
/- The kernel's result is the reference's, element by element, at the ideal values. -/
module

public import proofs.«01_k».proof.Proof.Target
public import proofs.«01_k».proof.Proof.RefAt
public import proofs.«01_k».proof.Proof.Launch

@[expose] public section

noncomputable section

namespace Cert.Proof.Value

open Cert.KernelIdeal Cert.KernelIdeal.Gen Cert.Proof.Host Cert.Proof.Spec Cert.Proof.Range Cert.Proof.Target Cert.Proof.Tc
open Idealize.ShloMosaic Idealize.ShloMosaic.TcCoe Idealize.ShloMosaic.ValueIdx

variable (x : FVec Ideal S1024x100000 .f32) (t : IVec S1024 32) (tm : FVec Ideal S1 .f32) (h : InRange (F := Ideal) t)

include h in
/-- The two programs' target columns are one column. -/
theorem columns : k1_pay1 (F := Ideal) (slivers x t) (selOf (F := Ideal) t) = Ref.picked (F := Ideal) x t := by
  funext i
  rw [eq_ix2 i]
  exact (target x t h (i 0) (i 1)).trans (Ref.picked_apply x t h (i 0) (i 1)).symm

/-- The margin's root is of a number that is not negative, so the kernel's guard under it changes nothing. -/
theorem margin_at (r : Fin 1024) : k1_pay3 (F := Ideal) (slivers x t) (selOf (F := Ideal) t) (ix2 r 0) = marginOf (Ref.targetCos x t h r) := by
  have e := target x t h r 0
  have s : k1_pay3 (F := Ideal) (slivers x t) (selOf (F := Ideal) t) (ix2 r 0)
      = (fun tl : EReal => tl * lit 0x3F60A940#32 - Ideal.sqrt (max (lit 0x3F800000#32 - tl * tl) (lit 0x00000000#32)) * lit 0x3EF57744#32)
          (k1_pay1 (F := Ideal) (slivers x t) (selOf (F := Ideal) t) (ix2 r 0)) := rfl
  rw [s, e]
  show clip _ * _ - Ideal.sqrt (max (lit 0x3F800000#32 - clip _ * clip _) (lit 0x00000000#32)) * _ = _
  rw [root_max]
  rfl

theorem ctm_at (r : Fin 1024) : ctmOf (F := Ideal) (slivers x t) (selOf (F := Ideal) t) (ix2 r 0) = marginOf (Ref.targetCos x t h r) := by
  unfold ctmOf k1_pay4
  rw [shapeCast_self]
  exact margin_at x t h r

theorem ftl_at (r : Fin 1024) :
    ftlOf (F := Ideal) (slivers x t) (selOf (F := Ideal) t) (ix2 r 0) = finalOf (Ref.targetCos x t h r) * lit 0x42800000#32 := by
  have e := target x t h r 0
  have g := margin_at x t h r
  have s : ftlOf (F := Ideal) (slivers x t) (selOf (F := Ideal) t) (ix2 r 0)
      = (fun tl mg : EReal => Scalar.select (Ideal.cmp .ogt tl (lit 0xBF60A940#32)) mg (tl - lit 0x3E757744#32) * lit 0x42800000#32)
          (k1_pay1 (F := Ideal) (slivers x t) (selOf (F := Ideal) t) (ix2 r 0)) (k1_pay3 (F := Ideal) (slivers x t) (selOf (F := Ideal) t) (ix2 r 0)) := by
    unfold ftlOf k1_pay5
    rw [shapeCast_self]
    rfl
  rw [s, e, g]
  rfl

include h in
/-- The new running mean. -/
theorem mean_at : k1_pay2 (F := Ideal) (slivers x t) (selOf (F := Ideal) t) (shapeCast S1x1 tm shapeCasts_S1_S1x1)
    = meanOf (∑ i : S1024x1.Idx, Ref.picked (F := Ideal) x t i) (tm (ix1 0)) := by
  rw [mean, columns x t h, shapeCast_apply tm _ _ (ix1 0) (by rw [Shape.rowMajor_val_two, Shape.rowMajor_val_one]; rfl)]

/-- The target's own column is the one whose number is the target. -/
theorem hit_at (r : Fin 1024) (c : Fin 100000) :
    Scalar.cmpi .eq (BitVec.ofNat 32 c.val) (tgtOf (F := Ideal) t (ix2 r 0)) = if c = Ref.colAt t h r then 1#1 else 0#1 := by
  have ht := h (ix1 r)
  have b : tgtOf (F := Ideal) t (ix2 r 0) = t (ix1 r) := by
    unfold tgtOf
    rw [broadcastInDim_apply ![0] bcast_S1024_S1024x1_0 _ (ix2 r 0) (ix1 r) (fun a => by fin_cases a; rfl)]
  rw [b]
  split
  · rename_i hc
    refine IntOp.cmpi_eq.2 (BitVec.eq_of_toNat_eq ?_)
    have hc' : c.val = BitVec.toNat (t (ix1 r)) := congrArg Fin.val hc
    rw [BitVec.toNat_ofNat, hc']
    exact Nat.mod_eq_of_lt (t (ix1 r)).isLt
  · rename_i hc
    rcases BitVec.eq_zero_or_eq_one (Scalar.cmpi .eq (BitVec.ofNat 32 c.val) (t (ix1 r))) with e | e
    · exact e
    · refine absurd (Fin.ext ?_) hc
      have := congrArg BitVec.toNat (IntOp.cmpi_eq.1 e)
      rw [BitVec.toNat_ofNat] at this
      show c.val = BitVec.toNat (t (ix1 r))
      omega

include h in
/-- The two results are one array. -/
theorem value : outOf (F := Ideal) x (slivers x t) (selOf (F := Ideal) t) (tgtOf (F := Ideal) t) (shapeCast S1x1 tm shapeCasts_S1_S1x1)
    = Ref.resultOf (F := Ideal) x t tm := by
  funext p
  obtain ⟨r, c, rfl⟩ : ∃ (r : Fin 1024) (c : Fin 100000), p = ix2 r c := ⟨p 0, p 1, eq_ix2 p⟩
  refine Eq.trans ?_ (Ref.resultOf_apply x t tm h r c).symm
  show elemOf (F := Ideal) (Scalar.cmpi .eq (BitVec.ofNat 32 c.val) (tgtOf (F := Ideal) t (ix2 r 0))) (x (ix2 r c))
    (ctmOf (F := Ideal) (slivers x t) (selOf (F := Ideal) t) (ix2 r 0)) (ftlOf (F := Ideal) (slivers x t) (selOf (F := Ideal) t) (ix2 r 0))
    (k1_pay2 (F := Ideal) (slivers x t) (selOf (F := Ideal) t) (shapeCast S1x1 tm shapeCasts_S1_S1x1)) = _
  rw [hit_at t h r c, ctm_at x t h r, ftl_at x t h r, mean_at x t tm h]
  by_cases hc : c = Ref.colAt t h r
  · rw [if_pos hc, if_pos hc]
    rfl
  · rw [if_neg hc, if_neg hc]
    unfold hardOf
    rw [select_mul, ← scale_hard]
    rfl

end Cert.Proof.Value
-- ==== Proof.Algebraic.lean ====
/- From the same arguments the kernel and the reference return the same array at the ideal values. -/
module

public import proofs.«01_k».proof.Proof.Value
public import proofs.«01_k».proof.Proof.Frames

@[expose] public section

noncomputable section

namespace Cert.Proof.Algebraic

open Idealize.ShloMosaic Idealize.ShloMosaic.TcCoe Idealize.SL.Sem Cert.Proof.Run Cert.Proof.Range

/-- The kernel's result is the reference's function of the kernel's arguments. -/
theorem result_eq (m : (ℓ : Loc Cert.KernelIdeal.nD Cert.KernelIdeal.τ Cert.KernelIdeal.sig) → Buf (Elt Ideal) ℓ) (h : Cert.Pre_KernelIdeal m)
    (d : Dev Cert.KernelIdeal.nD) :
    result (F := Ideal) m d = Ref.resultOf (F := Ideal) (xIn (F := Ideal) m d) (tIn (F := Ideal) m d) (tmIn (F := Ideal) m d) :=
  Value.value (xIn (F := Ideal) m d) (tIn (F := Ideal) m d) (tmIn (F := Ideal) m d) (inRange_of_pre (F := Ideal) _ _ _ (h d))

set_option maxRecDepth 8192 in
set_option maxHeartbeats 4000000 in
theorem algebraic : Cert.algebraic_KernelIdeal_ReferenceIdeal := by
  intro m ρ m' ρ' h hargs
  refine ⟨fun d => result (F := Ideal) m d, ?_, ?_⟩
  · exact (θ_run Cert.KernelIdeal.defs _ _).mono (fun _ q c => ⟨(q.1 c).2.2.2, (q.1 c).1, (q.1 c).2.1, (q.1 c).2.2.1⟩)
      (run_main (F := Ideal) m ρ (Frames.cols_ideal m h))
  · refine (θ_run Cert.ReferenceIdeal.defs _ _).mono (fun _ q c => ⟨?_, (q c).2⟩) (Cert.ReferenceIdeal.Value.run (F := Ideal) m' ρ')
    refine (q c).1.trans ((Ref.res_eq (F := Ideal) m' c).trans ?_)
    rw [(hargs c).1, (hargs c).2.1, (hargs c).2.2]
    exact (result_eq m h c).symm

end Cert.Proof.Algebraic
-- ==== Proof.lean ====
/- The whole claim: the three frames, the idealization step (which rewrites nothing), and the equality of the kernel's and the
   reference's results at the ideal values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Frames.frame_kernel, Frames.frame_kernelIdeal, Frames.frame_referenceIdeal, trivial, Algebraic.algebraic⟩

end Cert.Proof

end
